-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v41_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v41_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gates_finite : Cert.Pre_gates_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_gates_finite.lean ====
abbrev S8x2048x7168 : Shape := ⟨3, ![8, 2048, 7168]⟩
abbrev S16x7168 : Shape := ⟨2, ![16, 7168]⟩
abbrev S8x2048x1024 : Shape := ⟨3, ![8, 2048, 1024]⟩
abbrev S_ : Shape := ⟨0, ![]⟩

class Facts : Prop where
  slices_S8x2048x7168_S8x2048x1024_0_0_2048 : S8x2048x7168.Slices ![0, 0, 2048] S8x2048x1024
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x7168 .bf16) (main_arg1 : FVec F S16x7168 .bf16) : IVec S_ 1 :=
  let main_v0 : FVec F S8x2048x1024 .bf16 := (extractStridedSlice S8x2048x1024 ![0, 0, 2048] · slices_S8x2048x7168_S8x2048x1024_0_0_2048) main_arg0
  let main_v1 : FVec F S8x2048x1024 .f32 := (extf .f32 · bitsLt_bf16_f32) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_c : IVec S_ 1 := constantI S_ 1 1#1
  let main_v5 : IVec S_ 1 := (fun x v => Host.reduce IntOp.andi x v reducesTo_S8x2048x1024_S_d0_1_2 h_S_) main_v4 main_c
  main_v5
-- ==== Kernel.lean ====
abbrev S8x2048x7168 : Shape := ⟨3, ![8, 2048, 7168]⟩
abbrev S16x7168 : Shape := ⟨2, ![16, 7168]⟩
abbrev S4 : Shape := ⟨1, ![4]⟩
abbrev S_ : Shape := ⟨0, ![]⟩
abbrev S128x7168 : Shape := ⟨2, ![128, 7168]⟩
abbrev S8x2048x1024 : Shape := ⟨3, ![8, 2048, 1024]⟩
abbrev S1x2048x512 : Shape := ⟨3, ![1, 2048, 512]⟩
abbrev S1x2048x1024 : Shape := ⟨3, ![1, 2048, 1024]⟩
abbrev S128x512 : Shape := ⟨2, ![128, 512]⟩
abbrev S128x1024 : Shape := ⟨2, ![128, 1024]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S128x256 : Shape := ⟨2, ![128, 256]⟩
abbrev S1x128x128 : Shape := ⟨3, ![1, 128, 128]⟩
abbrev S1x128x256 : Shape := ⟨3, ![1, 128, 256]⟩
abbrev S256x256 : Shape := ⟨2, ![256, 256]⟩
abbrev S128 : Shape := ⟨1, ![128]⟩

abbrev nBuf : Space → Nat
  | .hbm => 16
  | .vmem => 12
  | .smem => 1
  | _ => 0

abbrev bufTy : (tb : Table) → Fin (tcTables nBuf tb) → BufTy
  | .hbm, ⟨0, _⟩ => ⟨S8x2048x7168, .bf16⟩
  | .hbm, ⟨1, _⟩ => ⟨S16x7168, .bf16⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S_, .i32⟩
  | .hbm, ⟨13, _⟩ => ⟨S_, .bf16⟩
  | .hbm, ⟨14, _⟩ => ⟨S128x7168, .bf16⟩
  | .hbm, ⟨15, _⟩ => ⟨S8x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S128x512, .bf16⟩
  | .local _ .vmem, ⟨9, _⟩ => ⟨S128x1024, .bf16⟩
  | .local _ .vmem, ⟨10, _⟩ => ⟨S1x2048x1024, .bf16⟩
  | .local _ .vmem, ⟨11, _⟩ => ⟨S1x2048x1024, .bf16⟩
  | .local _ .smem, ⟨0, _⟩ => ⟨S4, .f32⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def k0_off1 (i : grid0.Coords) (c0_i32 : BitVec 32) : Fin 1 → Nat :=
  let arg1 : BitVec 32 := BitVec.ofNat 32 (i 1).val
  let c4_i32 : BitVec 32 := 4#32
  let v6 : BitVec 32 := Scalar.muli arg1 c4_i32
  let v7 : BitVec 32 := Scalar.addi v6 c0_i32
  let v8 : Index := Scalar.indexCast v7
  ![v8.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S1x2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x2048x7168 : Shape := ⟨3, ![8, 2048, 7168]⟩
abbrev S16x7168 : Shape := ⟨2, ![16, 7168]⟩
abbrev S1x16x7168 : Shape := ⟨3, ![1, 16, 7168]⟩
abbrev S8x16x7168 : Shape := ⟨3, ![8, 16, 7168]⟩
abbrev S8x2064x7168 : Shape := ⟨3, ![8, 2064, 7168]⟩
abbrev S_ : Shape := ⟨0, ![]⟩
abbrev S8x2176x7168 : Shape := ⟨3, ![8, 2176, 7168]⟩
abbrev S8x2176x512 : Shape := ⟨3, ![8, 2176, 512]⟩
abbrev S8x17x128x4x128 : Shape := ⟨5, ![8, 17, 128, 4, 128]⟩
abbrev S8x2176x1024 : Shape := ⟨3, ![8, 2176, 1024]⟩
abbrev S8x17x128x4x256 : Shape := ⟨5, ![8, 17, 128, 4, 256]⟩
abbrev S4 : Shape := ⟨1, ![4]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S128x4 : Shape := ⟨2, ![128, 4]⟩
abbrev S1x1x128x4x1 : Shape := ⟨5, ![1, 1, 128, 4, 1]⟩
abbrev S17x8x4x128x256 : Shape := ⟨5, ![17, 8, 4, 128, 256]⟩
abbrev S1x4x1x1 : Shape := ⟨4, ![1, 4, 1, 1]⟩
abbrev S8x4x128x256 : Shape := ⟨4, ![8, 4, 128, 256]⟩
abbrev S1x8x4x128x256 : Shape := ⟨5, ![1, 8, 4, 128, 256]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S8x17x4x128x128 : Shape := ⟨5, ![8, 17, 4, 128, 128]⟩
abbrev S1x1x4x128x128 : Shape := ⟨5, ![1, 1, 4, 128, 128]⟩
abbrev S8x17x4x256x128 : Shape := ⟨5, ![8, 17, 4, 256, 128]⟩
abbrev S8x2176x4x256 : Shape := ⟨4, ![8, 2176, 4, 256]⟩
abbrev S8x2176x4 : Shape := ⟨3, ![8, 2176, 4]⟩
abbrev S8x2176x4x1 : Shape := ⟨4, ![8, 2176, 4, 1]⟩
abbrev S8x2048x1024 : Shape := ⟨3, ![8, 2048, 1024]⟩

abbrev nBuf : Space → Nat
  | .hbm => 177
  | .vmem => 0
  | .smem => 0
  | _ => 0

abbrev hbmTy0_0 (i : Nat) : BufTy := match i % 128 with
  | 0 => ⟨S8x2048x7168, .bf16⟩
  | 1 => ⟨S16x7168, .bf16⟩
  | 2 => ⟨S1x16x7168, .bf16⟩
  | 3 => ⟨S1x16x7168, .f32⟩
  | 4 => ⟨S8x16x7168, .f32⟩
  | 5 => ⟨S8x2048x7168, .f32⟩
  | 6 => ⟨S8x2064x7168, .f32⟩
  | 7 => ⟨S_, .i32⟩
  | 8 => ⟨S_, .f32⟩
  | 9 => ⟨S8x2176x7168, .f32⟩
  | 10 => ⟨S8x2176x512, .f32⟩
  | 11 => ⟨S8x17x128x4x128, .f32⟩
  | 12 => ⟨S8x2176x512, .f32⟩
  | 13 => ⟨S8x17x128x4x128, .f32⟩
  | 14 => ⟨S8x2176x1024, .f32⟩
  | 15 => ⟨S8x17x128x4x256, .f32⟩
  | 16 => ⟨S8x2176x1024, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S4, .f32⟩
  | 26 => ⟨S4, .f32⟩
  | 27 => ⟨S128, .f32⟩
  | 28 => ⟨S4x1, .f32⟩
  | 29 => ⟨S_, .f32⟩
  | 30 => ⟨S128, .f32⟩
  | 31 => ⟨S128, .f32⟩
  | 32 => ⟨S1x128, .f32⟩
  | 33 => ⟨S4x128, .f32⟩
  | 34 => ⟨S4x128, .f32⟩
  | 35 => ⟨S4x128, .f32⟩
  | 36 => ⟨S4x128, .f32⟩
  | 37 => ⟨S128x4, .f32⟩
  | 38 => ⟨S1x1x128x4x1, .f32⟩
  | 39 => ⟨S8x17x128x4x128, .f32⟩
  | 40 => ⟨S8x17x128x4x128, .f32⟩
  | 41 => ⟨S17x8x4x128x256, .f32⟩
  | 42 => ⟨S_, .f32⟩
  | 43 => ⟨S4, .f32⟩
  | 44 => ⟨S4, .f32⟩
  | 45 => ⟨S4, .f32⟩
  | 46 => ⟨S1x4x1x1, .f32⟩
  | 47 => ⟨S_, .f32⟩
  | 48 => ⟨S8x4x128x256, .f32⟩
  | 49 => ⟨S_, .f32⟩
  | 50 => ⟨S17x8x4x128x256, .f32⟩
  | 51 => ⟨S_, .i32⟩
  | 52 => ⟨S17x8x4x128x256, .f32⟩
  | 53 => ⟨S1x4x1x1, .f32⟩
  | 54 => ⟨S_, .i32⟩
  | 55 => ⟨S8x4x128x256, .f32⟩
  | 56 => ⟨S17x8x4x128x256, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S1x8x4x128x256, .f32⟩
  | 64 => ⟨S8x4x128x256, .f32⟩
  | 65 => ⟨S8x4x128x256, .f32⟩
  | 66 => ⟨S8x4x128x256, .f32⟩
  | 67 => ⟨S8x4x128x256, .f32⟩
  | 68 => ⟨S1x8x4x128x256, .f32⟩
  | 69 => ⟨S_, .i32⟩
  | 70 => ⟨S_, .i32⟩
  | 71 => ⟨S_, .i32⟩
  | 72 => ⟨S_, .i32⟩
  | 73 => ⟨S17x8x4x128x256, .f32⟩
  | 74 => ⟨S_, .i32⟩
  | 75 => ⟨S_, .i32⟩
  | 76 => ⟨S1x16x7168, .bf16⟩
  | 77 => ⟨S1x16x7168, .f32⟩
  | 78 => ⟨S8x16x7168, .f32⟩
  | 79 => ⟨S8x2048x7168, .f32⟩
  | 80 => ⟨S8x2064x7168, .f32⟩
  | 81 => ⟨S_, .i32⟩
  | 82 => ⟨S_, .f32⟩
  | 83 => ⟨S8x2176x7168, .f32⟩
  | 84 => ⟨S8x2176x512, .f32⟩
  | 85 => ⟨S8x17x128x4x128, .f32⟩
  | 86 => ⟨S8x2176x512, .f32⟩
  | 87 => ⟨S8x17x128x4x128, .f32⟩
  | 88 => ⟨S8x2176x1024, .f32⟩
  | 89 => ⟨S8x17x128x4x256, .f32⟩
  | 90 => ⟨S8x2176x1024, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S4, .f32⟩
  | 100 => ⟨S4, .f32⟩
  | 101 => ⟨S128, .f32⟩
  | 102 => ⟨S128x1, .f32⟩
  | 103 => ⟨S1x128, .f32⟩
  | 104 => ⟨S128x128, .f32⟩
  | 105 => ⟨S128x128, .f32⟩
  | 106 => ⟨S128x128, .f32⟩
  | 107 => ⟨S128, .i32⟩
  | 108 => ⟨S128x1, .i32⟩
  | 109 => ⟨S1x128, .i32⟩
  | 110 => ⟨S128x128, .i32⟩
  | 111 => ⟨S128x128, .i32⟩
  | 112 => ⟨S128x128, .i1⟩
  | 113 => ⟨S1x128x128, .i1⟩
  | 114 => ⟨S4x1x1, .f32⟩
  | 115 => ⟨S_, .f32⟩
  | 116 => ⟨S128x128, .f32⟩
  | 117 => ⟨S128x128, .f32⟩
  | 118 => ⟨S1x128x128, .f32⟩
  | 119 => ⟨S4x128x128, .f32⟩
  | 120 => ⟨S4x128x128, .f32⟩
  | 121 => ⟨S4x128x128, .f32⟩
  | 122 => ⟨S4x128x128, .f32⟩
  | 123 => ⟨S_, .f32⟩
  | 124 => ⟨S_, .f32⟩
  | 125 => ⟨S4x128x128, .i1⟩
  | 126 => ⟨S4x128x128, .f32⟩
  | 127 => ⟨S4x128x128, .f32⟩
  | _ => ⟨S8x2048x7168, .bf16⟩

abbrev hbmTy0_1 (i : Nat) : BufTy := match i % 128 with
  | 0 => ⟨S8x17x4x128x128, .f32⟩
  | 1 => ⟨S1x1x4x128x128, .f32⟩
  | 2 => ⟨S8x17x4x128x128, .f32⟩
  | 3 => ⟨S8x17x4x128x128, .f32⟩
  | 4 => ⟨S8x17x4x256x128, .f32⟩
  | 5 => ⟨S8x17x128x4x256, .f32⟩
  | 6 => ⟨S4x1, .f32⟩
  | 7 => ⟨S_, .f32⟩
  | 8 => ⟨S128, .f32⟩
  | 9 => ⟨S128, .f32⟩
  | 10 => ⟨S1x128, .f32⟩
  | 11 => ⟨S4x128, .f32⟩
  | 12 => ⟨S4x128, .f32⟩
  | 13 => ⟨S4x128, .f32⟩
  | 14 => ⟨S4x128, .f32⟩
  | 15 => ⟨S128x4, .f32⟩
  | 16 => ⟨S1x1x128x4x1, .f32⟩
  | 17 => ⟨S8x17x128x4x128, .f32⟩
  | 18 => ⟨S8x17x128x4x128, .f32⟩
  | 19 => ⟨S8x17x4x256x128, .f32⟩
  | 20 => ⟨S8x17x128x4x256, .f32⟩
  | 21 => ⟨S8x17x128x4x256, .f32⟩
  | 22 => ⟨S8x2176x4x256, .f32⟩
  | 23 => ⟨S8x2176x4x256, .f32⟩
  | 24 => ⟨S_, .f32⟩
  | 25 => ⟨S8x2176x4, .f32⟩
  | 26 => ⟨S8x2176x4x1, .f32⟩
  | 27 => ⟨S_, .f32⟩
  | 28 => ⟨S8x2176x4x1, .f32⟩
  | 29 => ⟨S8x2176x4x1, .f32⟩
  | 30 => ⟨S_, .f32⟩
  | 31 => ⟨S8x2176x4x1, .f32⟩
  | 32 => ⟨S8x2176x4x1, .f32⟩
  | 33 => ⟨S8x2176x4x1, .f32⟩
  | 34 => ⟨S8x2176x4x256, .f32⟩
  | 35 => ⟨S8x2176x4x256, .f32⟩
  | 36 => ⟨S8x2176x1024, .f32⟩
  | 37 => ⟨S8x2176x1024, .f32⟩
  | 38 => ⟨S8x2176x1024, .f32⟩
  | 39 => ⟨S_, .f32⟩
  | 40 => ⟨S8x2176x1024, .f32⟩
  | 41 => ⟨S8x2176x1024, .f32⟩
  | 42 => ⟨S_, .f32⟩
  | 43 => ⟨S8x2176x1024, .f32⟩
  | 44 => ⟨S8x2176x1024, .f32⟩
  | 45 => ⟨S8x2176x1024, .f32⟩
  | 46 => ⟨S8x2176x1024, .f32⟩
  | 47 => ⟨S8x2048x1024, .f32⟩
  | 48 => ⟨S8x2048x1024, .bf16⟩
  | _ => ⟨S8x2048x7168, .bf16⟩

abbrev hbmTy (i : Nat) : BufTy := match i / 128 with
  | 0 => hbmTy0_0 i
  | 1 => hbmTy0_1 i
  | _ => ⟨S8x2048x7168, .bf16⟩

abbrev bufTy : (tb : Table) → Fin (tcTables nBuf tb) → BufTy
  | .hbm, ⟨i, _⟩ => hbmTy i
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_c_5 : Ref sig .tc := ⟨.hbm, 51, rfl⟩
abbrev main_v41_0 : Ref sig .tc := ⟨.hbm, 52, rfl⟩
abbrev main_v41_1 : Ref sig .tc := ⟨.hbm, 53, rfl⟩
abbrev main_v41_2 : Ref sig .tc := ⟨.hbm, 54, rfl⟩
abbrev main_v41_3 : Ref sig .tc := ⟨.hbm, 55, rfl⟩
abbrev main_v41_4 : Ref sig .tc := ⟨.hbm, 56, rfl⟩
abbrev main_while0c_c_19 : Ref sig .tc := ⟨.hbm, 57, rfl⟩
abbrev main_while0c_v122 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_c_1 : Ref sig .tc := ⟨.hbm, 61, rfl⟩
abbrev main_while0b_call1_c_2 : Ref sig .tc := ⟨.hbm, 62, rfl⟩
abbrev main_while0b_call1_v0 : Ref sig .tc := ⟨.hbm, 63, rfl⟩
abbrev main_while0b_v122 : Ref sig .tc := ⟨.hbm, 64, rfl⟩
abbrev main_while0b_v123 : Ref sig .tc := ⟨.hbm, 65, rfl⟩
abbrev main_while0b_v124 : Ref sig .tc := ⟨.hbm, 66, rfl⟩
abbrev main_while0b_v125 : Ref sig .tc := ⟨.hbm, 67, rfl⟩
abbrev main_while0b_call2_v0 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_c_2 : Ref sig .tc := ⟨.hbm, 72, rfl⟩
abbrev main_while0b_v126 : Ref sig .tc := ⟨.hbm, 73, rfl⟩
abbrev main_while0b_c_19 : Ref sig .tc := ⟨.hbm, 74, rfl⟩
abbrev main_while0b_v127 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_6 : Ref sig .tc := ⟨.hbm, 81, rfl⟩
abbrev main_call3_v0 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_7 : Ref sig .tc := ⟨.hbm, 92, rfl⟩
abbrev main_v56 : Ref sig .tc := ⟨.hbm, 93, rfl⟩
abbrev main_v57 : Ref sig .tc := ⟨.hbm, 94, rfl⟩
abbrev main_cst_8 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_10 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_11 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_12 : Ref sig .tc := ⟨.hbm, 152, rfl⟩
abbrev main_v108 : Ref sig .tc := ⟨.hbm, 153, rfl⟩
abbrev main_v109 : Ref sig .tc := ⟨.hbm, 154, rfl⟩
abbrev main_cst_13 : Ref sig .tc := ⟨.hbm, 155, rfl⟩
abbrev main_v110 : Ref sig .tc := ⟨.hbm, 156, rfl⟩
abbrev main_v111 : Ref sig .tc := ⟨.hbm, 157, rfl⟩
abbrev main_cst_14 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_call5_v0 : Ref sig .tc := ⟨.hbm, 165, rfl⟩
abbrev main_call5_v1 : Ref sig .tc := ⟨.hbm, 166, rfl⟩
abbrev main_call5_cst : Ref sig .tc := ⟨.hbm, 167, rfl⟩
abbrev main_call5_v2 : Ref sig .tc := ⟨.hbm, 168, rfl⟩
abbrev main_call5_v3 : Ref sig .tc := ⟨.hbm, 169, rfl⟩
abbrev main_call5_cst_0 : Ref sig .tc := ⟨.hbm, 170, rfl⟩
abbrev main_call5_v4 : Ref sig .tc := ⟨.hbm, 171, rfl⟩
abbrev main_call5_v5 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩

abbrev nD : Nat := 1
abbrev τ : Topo := Topo.v7x

variable {F : FTy → Type} [FloatOps F]

abbrev main_while0_count : Scf.Loop 32 := ⟨0#32, 17#32, 1#32⟩
-- ==== Kernel2.lean ====
abbrev S8x2048x1024 : Shape := ⟨3, ![8, 2048, 1024]⟩
abbrev S1x2048x1024 : Shape := ⟨3, ![1, 2048, 1024]⟩
abbrev S1024 : Shape := ⟨1, ![1024]⟩
abbrev S16384x1024 : Shape := ⟨2, ![16384, 1024]⟩
abbrev S2048x1024 : Shape := ⟨2, ![2048, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .f32⟩
  | .hbm, ⟨3, _⟩ => ⟨S1x2048x1024, .f32⟩
  | .hbm, ⟨4, _⟩ => ⟨S1024, .f32⟩
  | .hbm, ⟨5, _⟩ => ⟨S16384x1024, .bf16⟩
  | .hbm, ⟨6, _⟩ => ⟨S16384x1024, .bf16⟩
  | .hbm, ⟨7, _⟩ => ⟨S16384x1024, .f32⟩
  | .hbm, ⟨8, _⟩ => ⟨S2048x1024, .f32⟩
  | .hbm, ⟨9, _⟩ => ⟨S1x1024, .f32⟩
  | .hbm, ⟨10, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1x2048x1024 : Shape := ⟨3, ![1, 2048, 1024]⟩
abbrev S1024 : Shape := ⟨1, ![1024]⟩
abbrev S8x2048x2048 : Shape := ⟨3, ![8, 2048, 2048]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .f32⟩
  | .hbm, ⟨3, _⟩ => ⟨S1x2048x1024, .f32⟩
  | .hbm, ⟨4, _⟩ => ⟨S1024, .f32⟩
  | .hbm, ⟨5, _⟩ => ⟨S8x2048x2048, .bf16⟩
  | .hbm, ⟨6, _⟩ => ⟨S8x2048x2048, .f32⟩
  | .hbm, ⟨7, _⟩ => ⟨S2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x7184 : Shape := ⟨3, ![1, 1024, 7184]⟩
abbrev S1x16 : Shape := ⟨2, ![1, 16]⟩
abbrev S16384x1024 : Shape := ⟨2, ![16384, 1024]⟩
abbrev S_ : Shape := ⟨0, ![]⟩
abbrev S7168x1 : Shape := ⟨2, ![7168, 1]⟩
abbrev S1 : Shape := ⟨1, ![1]⟩
abbrev S512x1 : Shape := ⟨2, ![512, 1]⟩
abbrev S1024x1 : Shape := ⟨2, ![1024, 1]⟩
abbrev S1x7184x1024 : Shape := ⟨3, ![1, 7184, 1024]⟩
abbrev S7184x1024 : Shape := ⟨2, ![7184, 1024]⟩
abbrev S7168x1024 : Shape := ⟨2, ![7168, 1024]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1024 : Shape := ⟨1, ![1024]⟩
abbrev S16 : Shape := ⟨1, ![16]⟩
abbrev S16384x7168 : Shape := ⟨2, ![16384, 7168]⟩
abbrev S8x8x2x2048 : Shape := ⟨4, ![8, 8, 2, 2048]⟩
abbrev S8x1024 : Shape := ⟨2, ![8, 1024]⟩
abbrev S2048x1024 : Shape := ⟨2, ![2048, 1024]⟩
abbrev S1792x1024 : Shape := ⟨2, ![1792, 1024]⟩
abbrev S8x1 : Shape := ⟨2, ![8, 1]⟩
abbrev S16x1024 : Shape := ⟨2, ![16, 1024]⟩
abbrev S2048x1792 : Shape := ⟨2, ![2048, 1792]⟩
abbrev S1x8x2x2048 : Shape := ⟨4, ![1, 8, 2, 2048]⟩
abbrev S16x2048 : Shape := ⟨2, ![16, 2048]⟩
abbrev S512x1024 : Shape := ⟨2, ![512, 1024]⟩
abbrev S512 : Shape := ⟨1, ![512]⟩
abbrev S16x512 : Shape := ⟨2, ![16, 512]⟩
abbrev S512x1792 : Shape := ⟨2, ![512, 1792]⟩
abbrev S512x128 : Shape := ⟨2, ![512, 128]⟩
abbrev S512x768 : Shape := ⟨2, ![512, 768]⟩
abbrev S16x128 : Shape := ⟨2, ![16, 128]⟩
abbrev S16x1 : Shape := ⟨2, ![16, 1]⟩
abbrev S16x16 : Shape := ⟨2, ![16, 16]⟩
abbrev S2x128 : Shape := ⟨2, ![2, 128]⟩
abbrev S1x1x2x128 : Shape := ⟨4, ![1, 1, 2, 128]⟩

abbrev nBuf : Space → Nat
  | .hbm => 58
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7184, .f32⟩
  | .hbm, ⟨3, _⟩ => ⟨S1x16, .f32⟩
  | .hbm, ⟨4, _⟩ => ⟨S16384x1024, .f32⟩
  | .hbm, ⟨5, _⟩ => ⟨S_, .f32⟩
  | .hbm, ⟨6, _⟩ => ⟨S7168x1, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S512x1, .f32⟩
  | .hbm, ⟨11, _⟩ => ⟨S7168x1, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S1024x1, .f32⟩
  | .hbm, ⟨16, _⟩ => ⟨S7168x1, .f32⟩
  | .hbm, ⟨17, _⟩ => ⟨S1x7184x1024, .f32⟩
  | .hbm, ⟨18, _⟩ => ⟨S7184x1024, .f32⟩
  | .hbm, ⟨19, _⟩ => ⟨S7168x1024, .f32⟩
  | .hbm, ⟨20, _⟩ => ⟨S7168x1024, .f32⟩
  | .hbm, ⟨21, _⟩ => ⟨S7168x1024, .f32⟩
  | .hbm, ⟨22, _⟩ => ⟨S7168x1024, .bf16⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S2048x1, .f32⟩
  | .hbm, ⟨42, _⟩ => ⟨S1x64, .f32⟩
  | .hbm, ⟨43, _⟩ => ⟨S2048x64, .f32⟩
  | .hbm, ⟨44, _⟩ => ⟨S2048x64, .f32⟩
  | .hbm, ⟨45, _⟩ => ⟨S2048x64, .f32⟩
  | .hbm, ⟨46, _⟩ => ⟨S2048x64, .f32⟩
  | .hbm, ⟨47, _⟩ => ⟨S2048x64, .f32⟩
  | .hbm, ⟨48, _⟩ => ⟨S2048x128, .f32⟩
  | .hbm, ⟨49, _⟩ => ⟨S2048x64, .f32⟩
  | .hbm, ⟨50, _⟩ => ⟨S2048x128, .f32⟩
  | .hbm, ⟨51, _⟩ => ⟨S1024, .f32⟩
  | .hbm, ⟨52, _⟩ => ⟨S1x1024, .f32⟩
  | .hbm, ⟨53, _⟩ => ⟨S16, .f32⟩
  | .hbm, ⟨54, _⟩ => ⟨S1x16, .f32⟩
  | .hbm, ⟨55, _⟩ => ⟨S16384x7168, .bf16⟩
  | .hbm, ⟨56, _⟩ => ⟨S8x8x2x2048, .f32⟩
  | .hbm, ⟨57, _⟩ => ⟨S8x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1792x1024, .bf16⟩
  | .local _ .vmem, ⟨4, _⟩ => ⟨S1792x1024, .bf16⟩
  | .local _ .vmem, ⟨5, _⟩ => ⟨S8x1, .f32⟩
  | .local _ .vmem, ⟨6, _⟩ => ⟨S16x1024, .f32⟩
  | .local _ .vmem, ⟨7, _⟩ => ⟨S1x16, .f32⟩
  | .local _ .vmem, ⟨8, _⟩ => ⟨S2048x128, .f32⟩
  | .local _ .vmem, ⟨9, _⟩ => ⟨S2048x128, .f32⟩
  | .local _ .vmem, ⟨10, _⟩ => ⟨S2048x1792, .bf16⟩
  | .local _ .vmem, ⟨11, _⟩ => ⟨S2048x1792, .bf16⟩
  | .local _ .vmem, ⟨12, _⟩ => ⟨S1x8x2x2048, .f32⟩
  | .local _ .vmem, ⟨13, _⟩ => ⟨S1x8x2x2048, .f32⟩
  | .local _ .vmem, ⟨14, _⟩ => ⟨S8x1024, .bf16⟩
  | .local _ .vmem, ⟨15, _⟩ => ⟨S2048x1024, .bf16⟩
  | .local _ .vmem, ⟨16, _⟩ => ⟨S16x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev main_v41_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .sge arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c448_i32 : BitVec 32 := 448#32
  let c0_i32 : BitVec 32 := 0#32
  let c0_i32_0 : BitVec 32 := 0#32
  ![c448_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S8x2048x1024 : Shape := ⟨3, ![8, 2048, 1024]⟩
abbrev S1x1024 : Shape := ⟨2, ![1, 1024]⟩
abbrev S1x1024x7184 : Shape := ⟨3, ![1, 1024, 7184]⟩
abbrev S1x16 : Shape := ⟨2, ![1, 16]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x7184 : Shape := ⟨2, ![1024, 7184]⟩
abbrev S8x2048x7184 : Shape := ⟨3, ![8, 2048, 7184]⟩
abbrev S8x2048x512 : Shape := ⟨3, ![8, 2048, 512]⟩
abbrev S8x2048x2048 : Shape := ⟨3, ![8, 2048, 2048]⟩
abbrev S8x2048x3072 : Shape := ⟨3, ![8, 2048, 3072]⟩
abbrev S8x2048x16 : Shape := ⟨3, ![8, 2048, 16]⟩
abbrev S2048 : Shape := ⟨1, ![2048]⟩
abbrev S8x2048x4x128 : Shape := ⟨4, ![8, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S8x2048x7168 : Shape := ⟨3, ![8, 2048, 7168]⟩
abbrev S16 : Shape := ⟨1, ![16]⟩
abbrev S1x1x16 : Shape := ⟨3, ![1, 1, 16]⟩
abbrev S8x16x2048 : Shape := ⟨3, ![8, 16, 2048]⟩
abbrev S16384x7168 : Shape := ⟨2, ![16384, 7168]⟩
abbrev S8x8x2x2048 : Shape := ⟨4, ![8, 8, 2, 2048]⟩

abbrev nBuf : Space → Nat
  | .hbm => 143
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x7184, .f32⟩
  | 3 => ⟨S1x16, .f32⟩
  | 4 => ⟨S1024, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S1024x7184, .f32⟩
  | 22 => ⟨S8x2048x7184, .f32⟩
  | 23 => ⟨S8x2048x512, .f32⟩
  | 24 => ⟨S8x2048x512, .f32⟩
  | 25 => ⟨S8x2048x2048, .f32⟩
  | 26 => ⟨S8x2048x1024, .f32⟩
  | 27 => ⟨S8x2048x3072, .f32⟩
  | 28 => ⟨S8x2048x16, .f32⟩
  | 29 => ⟨S2048, .f32⟩
  | 30 => ⟨S_, .f32⟩
  | 31 => ⟨S2048, .f32⟩
  | 32 => ⟨S2048, .f32⟩
  | 33 => ⟨S8x2048x4x128, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S2048x1, .f32⟩
  | 49 => ⟨S1x64, .f32⟩
  | 50 => ⟨S2048x64, .f32⟩
  | 51 => ⟨S2048x64, .f32⟩
  | 52 => ⟨S2048x64, .f32⟩
  | 53 => ⟨S2048x64, .f32⟩
  | 54 => ⟨S1x2048x1x64, .f32⟩
  | 55 => ⟨S2048x64, .f32⟩
  | 56 => ⟨S1x2048x1x64, .f32⟩
  | 57 => ⟨S8x2048x4x64, .f32⟩
  | 58 => ⟨S8x2048x4x64, .f32⟩
  | 59 => ⟨S8x2048x4x64, .f32⟩
  | 60 => ⟨S8x2048x4x64, .f32⟩
  | 61 => ⟨S8x2048x4x64, .f32⟩
  | 62 => ⟨S8x2048x4x64, .f32⟩
  | 63 => ⟨S8x2048x4x64, .f32⟩
  | 64 => ⟨S8x2048x4x64, .f32⟩
  | 65 => ⟨S8x2048x4x64, .f32⟩
  | 66 => ⟨S8x2048x4x64, .f32⟩
  | 67 => ⟨S8x2048x4x64, .f32⟩
  | 68 => ⟨S8x2048x4x64, .f32⟩
  | 69 => ⟨S8x2048x4x128, .f32⟩
  | 70 => ⟨S8x2048x4x128, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S2048x1, .f32⟩
  | 86 => ⟨S1x64, .f32⟩
  | 87 => ⟨S2048x64, .f32⟩
  | 88 => ⟨S2048x64, .f32⟩
  | 89 => ⟨S2048x64, .f32⟩
  | 90 => ⟨S2048x64, .f32⟩
  | 91 => ⟨S1x2048x1x64, .f32⟩
  | 92 => ⟨S2048x64, .f32⟩
  | 93 => ⟨S1x2048x1x64, .f32⟩
  | 94 => ⟨S8x2048x4x64, .f32⟩
  | 95 => ⟨S8x2048x4x64, .f32⟩
  | 96 => ⟨S8x2048x4x64, .f32⟩
  | 97 => ⟨S8x2048x4x64, .f32⟩
  | 98 => ⟨S8x2048x4x64, .f32⟩
  | 99 => ⟨S8x2048x4x64, .f32⟩
  | 100 => ⟨S8x2048x4x64, .f32⟩
  | 101 => ⟨S8x2048x4x64, .f32⟩
  | 102 => ⟨S8x2048x4x64, .f32⟩
  | 103 => ⟨S8x2048x4x64, .f32⟩
  | 104 => ⟨S8x2048x4x64, .f32⟩
  | 105 => ⟨S8x2048x4x64, .f32⟩
  | 106 => ⟨S8x2048x4x128, .f32⟩
  | 107 => ⟨S_, .f32⟩
  | 108 => ⟨S8x2048x4x128, .f32⟩
  | 109 => ⟨S8x2048x4x128, .f32⟩
  | 110 => ⟨S_, .f32⟩
  | 111 => ⟨S8x2048x1024, .f32⟩
  | 112 => ⟨S8x2048x1024, .f32⟩
  | 113 => ⟨S8x2048x512, .f32⟩
  | 114 => ⟨S8x2048x512, .f32⟩
  | 115 => ⟨S8x2048x7168, .f32⟩
  | 116 => ⟨S16, .f32⟩
  | 117 => ⟨S1x1x16, .f32⟩
  | 118 => ⟨S8x2048x16, .f32⟩
  | 119 => ⟨S8x2048x16, .f32⟩
  | 120 => ⟨S8x2048x16, .f32⟩
  | 121 => ⟨S_, .f32⟩
  | 122 => ⟨S8x2048x16, .f32⟩
  | 123 => ⟨S8x2048x16, .f32⟩
  | 124 => ⟨S8x2048x16, .f32⟩
  | 125 => ⟨S8x2048x16, .f32⟩
  | 126 => ⟨S8x2048x16, .i1⟩
  | 127 => ⟨S8x2048x16, .f32⟩
  | _ => ⟨S8x2048x1024, .f32⟩

abbrev hbmTy0_1 (i : Nat) : BufTy := match i % 128 with
  | 0 => ⟨S8x2048x16, .f32⟩
  | 1 => ⟨S8x2048x16, .f32⟩
  | 2 => ⟨S8x2048x16, .f32⟩
  | 3 => ⟨S8x2048x16, .f32⟩
  | 4 => ⟨S8x2048x16, .f32⟩
  | 5 => ⟨S8x2048x16, .f32⟩
  | 6 => ⟨S8x2048x16, .f32⟩
  | 7 => ⟨S8x2048x16, .f32⟩
  | 8 => ⟨S_, .f32⟩
  | 9 => ⟨S_, .f32⟩
  | 10 => ⟨S8x2048x16, .f32⟩
  | 11 => ⟨S8x16x2048, .f32⟩
  | 12 => ⟨S8x2048x7168, .bf16⟩
  | 13 => ⟨S16384x7168, .bf16⟩
  | 14 => ⟨S8x8x2x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_11 : Ref sig .tc := ⟨.hbm, 107, rfl⟩
abbrev main_v91 : Ref sig .tc := ⟨.hbm, 108, rfl⟩
abbrev main_v92 : Ref sig .tc := ⟨.hbm, 109, rfl⟩
abbrev main_cst_12 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_call0_v0 : Ref sig .tc := ⟨.hbm, 120, rfl⟩
abbrev main_call0_call0_cst : Ref sig .tc := ⟨.hbm, 121, rfl⟩
abbrev main_call0_call0_v0 : Ref sig .tc := ⟨.hbm, 122, rfl⟩
abbrev main_call0_call0_v1 : Ref sig .tc := ⟨.hbm, 123, rfl⟩
abbrev main_call0_call0_v2 : Ref sig .tc := ⟨.hbm, 124, rfl⟩
abbrev main_call0_call0_v3 : Ref sig .tc := ⟨.hbm, 125, rfl⟩
abbrev main_call0_call0_v4 : Ref sig .tc := ⟨.hbm, 126, rfl⟩
abbrev main_call0_call0_v5 : Ref sig .tc := ⟨.hbm, 127, rfl⟩
abbrev main_call0_call0_v6 : Ref sig .tc := ⟨.hbm, 128, rfl⟩
abbrev main_call0_call0_v7 : Ref sig .tc := ⟨.hbm, 129, rfl⟩
abbrev main_call0_call0_v8 : Ref sig .tc := ⟨.hbm, 130, rfl⟩
abbrev main_call0_call0_v9 : Ref sig .tc := ⟨.hbm, 131, rfl⟩
abbrev main_call0_call0_v10 : Ref sig .tc := ⟨.hbm, 132, rfl⟩
abbrev main_call0_call0_v11 : Ref sig .tc := ⟨.hbm, 133, rfl⟩
abbrev main_call0_v1 : Ref sig .tc := ⟨.hbm, 134, rfl⟩
abbrev main_v102 : Ref sig .tc := ⟨.hbm, 135, rfl⟩
abbrev main_call1_call0_cst : Ref sig .tc := ⟨.hbm, 136, rfl⟩
abbrev main_call1_call0_v0 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]
-- ==== Proof.RetBody.lean ====
module

public import proofs.«01_k».proof.Proof.Gen.KernelIdeal.Value

/-! # The retention body's stores as one family

At one grid point the body writes, for each of four heads and each of sixteen chunks of 128 rows, one tile of 128 × 256
elements. Here the tiles are given by one formula in the head and the chunk: `word` is the head's log decay, `kvOf` a chunk's
contribution to the state, `stateOf` the state before a chunk (a recursion from the meta tokens' state), `outOf` the tile.
`pieces_eq` says that the run's list of stores is that family, newest first. -/

@[expose] public section

set_option maxRecDepth 16384

noncomputable section

namespace Cert.Ret

open Cert.KernelIdeal Cert.KernelIdeal.Gen Idealize.ShloMosaic Idealize.ShloMosaic.TcCoe

variable {F : FTy → Type} [FloatOps F]

/-- The state the meta tokens leave, from their keys and values and the head's log decay. -/
def initOf (w : Elt F .f32) (km : Vec F S128x128 .bf16) (vm : Vec F S128x256 .bf16) : FVec F S128x256 .f32 :=
  k0_pay9 (k0_pay8 w km) vm

/-- What one chunk's keys and values add to the state. -/
def kvOf (w : Elt F .f32) (kb : Vec F S1x128x128 .bf16) (vb : Vec F S1x128x256 .bf16) : FVec F S128x256 .f32 :=
  k0_pay12 (k0_pay6 w) kb vb

/-- The state after a chunk. -/
def stepOf (w : Elt F .f32) (st kv : FVec F S128x256 .f32) : FVec F S128x256 .f32 := k0_pay17 (k0_pay7 w) st kv

/-- One chunk's tile of the result, from its queries, keys, values and gates and the state before it. -/
def outOf (w : Elt F .f32) (st : FVec F S128x256 .f32) (qb kb : Vec F S1x128x128 .bf16) (vb gb : Vec F S1x128x256 .bf16) : FVec F S1x128x256 .bf16 :=
  k0_pay16 (k0_pay5 w) st (k0_pay11 (k0_pay4 w) kb qb) qb vb gb

/-- A tile of queries or keys lies within its array. -/
theorem inbQK (n : Fin 16) (h : Fin 4) : ∀ a, (![0, 128 * n.val, 128 * h.val] : Fin 3 → ℕ) a + S1x128x128.size a ≤ S1x2048x512.size a := by
  intro a
  have hn := n.isLt
  have hh := h.isLt
  fin_cases a
  · show 0 + 1 ≤ 1; omega
  · show 128 * n.val + 128 ≤ 2048; omega
  · show 128 * h.val + 128 ≤ 512; omega

/-- A tile of values, gates or results lies within its array. -/
theorem inbVG (n : Fin 16) (h : Fin 4) : ∀ a, (![0, 128 * n.val, 256 * h.val] : Fin 3 → ℕ) a + S1x128x256.size a ≤ S1x2048x1024.size a := by
  intro a
  have hn := n.isLt
  have hh := h.isLt
  fin_cases a
  · show 0 + 1 ≤ 1; omega
  · show 128 * n.val + 128 ≤ 2048; omega
  · show 256 * h.val + 256 ≤ 1024; omega

/-- A head's meta keys lie within their array. -/
theorem inbKm (h : Fin 4) : ∀ a, (![0, 128 * h.val] : Fin 2 → ℕ) a + S128x128.size a ≤ S128x512.size a := by
  intro a
  have hh := h.isLt
  fin_cases a
  · show 0 + 128 ≤ 128; omega
  · show 128 * h.val + 128 ≤ 512; omega

/-- A head's meta values lie within their array. -/
theorem inbVm (h : Fin 4) : ∀ a, (![0, 256 * h.val] : Fin 2 → ℕ) a + S128x256.size a ≤ S128x1024.size a := by
  intro a
  have hh := h.isLt
  fin_cases a
  · show 0 + 128 ≤ 128; omega
  · show 256 * h.val + 256 ≤ 1024; omega

section Point

variable (i : grid0.Coords)
  (arg2 : Memref sig .tc .smem S4 .f32) (harg2 : arg2.IsWhole) (arg3 : Memref sig .tc .vmem S1x2048x512 .bf16) (harg3 : arg3.IsWhole)
  (arg4 : Memref sig .tc .vmem S1x2048x512 .bf16) (harg4 : arg4.IsWhole) (arg5 : Memref sig .tc .vmem S1x2048x1024 .bf16) (harg5 : arg5.IsWhole)
  (arg6 : Memref sig .tc .vmem S1x2048x1024 .bf16) (harg6 : arg6.IsWhole) (arg7 : Memref sig .tc .vmem S128x512 .bf16) (harg7 : arg7.IsWhole)
  (arg8 : Memref sig .tc .vmem S128x1024 .bf16) (harg8 : arg8.IsWhole)
  (x0 : Vec F S4 .f32) (x1 x2 : Vec F S1x2048x512 .bf16) (x3 x4 : Vec F S1x2048x1024 .bf16) (x5 : Vec F S128x512 .bf16) (x6 : Vec F S128x1024 .bf16)

/-- The log decay of head `h`, as the body loads it. -/
def wordRaw (h : Fin 4) : Elt F .f32 :=
  View.readAt (Elt F) arg2.view (Rect.unit (s := S4) (k0_off1 i (BitVec.ofNat 32 h.val)) S1.size (k0_off1_inb i h)).toLoadRect (harg2.unread x0) (Shape.Idx.first (by rw [show (Rect.unit (s := S4) (k0_off1 i (BitVec.ofNat 32 h.val)) S1.size (k0_off1_inb i h)).shape.numel = 1 from numel1_S1]; exact Nat.one_pos))

/-- A tile of queries or keys, as the body loads it. -/
def tileQK (arg : Memref sig .tc .vmem S1x2048x512 .bf16) (harg : arg.IsWhole) (x : Vec F S1x2048x512 .bf16) (n : Fin 16) (h : Fin 4) : Vec F S1x128x128 .bf16 :=
  View.readAt (Elt F) arg.view (Rect.unit (s := S1x2048x512) ![0, 128 * n.val, 128 * h.val] S1x128x128.size (inbQK n h)).toLoadRect (harg.unread x)

/-- A tile of values or gates, as the body loads it. -/
def tileVG (arg : Memref sig .tc .vmem S1x2048x1024 .bf16) (harg : arg.IsWhole) (x : Vec F S1x2048x1024 .bf16) (n : Fin 16) (h : Fin 4) : Vec F S1x128x256 .bf16 :=
  View.readAt (Elt F) arg.view (Rect.unit (s := S1x2048x1024) ![0, 128 * n.val, 256 * h.val] S1x128x256.size (inbVG n h)).toLoadRect (harg.unread x)

/-- The state before chunk `n` of head `h`, as the body computes it. -/
def stateRaw (h : Fin 4) : (n : ℕ) → n < 17 → FVec F S128x256 .f32
  | 0, _ => initOf (wordRaw i arg2 harg2 x0 h)
      (View.readAt (Elt F) arg7.view (Rect.unit (s := S128x512) ![0, 128 * h.val] S128x128.size (inbKm h)).toLoadRect (harg7.unread x5))
      (View.readAt (Elt F) arg8.view (Rect.unit (s := S128x1024) ![0, 256 * h.val] S128x256.size (inbVm h)).toLoadRect (harg8.unread x6))
  | n + 1, hn => stepOf (wordRaw i arg2 harg2 x0 h) (stateRaw h n (by omega))
      (kvOf (wordRaw i arg2 harg2 x0 h) (tileQK arg4 harg4 x2 ⟨n, by omega⟩ h) (tileVG arg5 harg5 x3 ⟨n, by omega⟩ h))

/-- Store number `k` from the last one: head `3 - k / 16`, chunk `15 - k % 16`. -/
def pieceOf (h : Fin 4) (n : Fin 16) : View.Piece (Elt F) S1x2048x1024 .bf16 :=
  ⟨Rect.unit ![0, 128 * n.val, 256 * h.val] S1x128x256.size (inbVG n h),
    outOf (wordRaw i arg2 harg2 x0 h) (stateRaw i arg2 harg2 arg4 harg4 arg5 harg5 arg7 harg7 arg8 harg8 x0 x2 x3 x5 x6 h n.val (by omega))
      (tileQK arg3 harg3 x1 n h) (tileQK arg4 harg4 x2 n h) (tileVG arg5 harg5 x3 n h) (tileVG arg6 harg6 x4 n h)⟩

set_option maxHeartbeats 4000000 in
/-- The run's stores are the family's, newest first. -/
theorem pieces_eq (c : Dev nD) (arg9 : Memref sig .tc .vmem S1x2048x1024 .bf16) (harg9 : arg9.IsWhole) :
    (kernelRun0_A c i arg2 harg2 arg3 harg3 arg4 harg4 arg5 harg5 arg6 harg6 arg7 harg7 arg8 harg8 arg9 harg9 x0 x1 x2 x3 x4 x5 x6).1
      = List.ofFn fun k : Fin 64 => pieceOf i arg2 harg2 arg3 harg3 arg4 harg4 arg5 harg5 arg6 harg6 arg7 harg7 arg8 harg8 x0 x1 x2 x3 x4 x5 x6
          ⟨3 - k.val / 16, by omega⟩ ⟨15 - k.val % 16, by omega⟩ := by
  sl_kernel_rfl

end Point

end Cert.Ret

end
-- ==== Proof.RetSpec.lean ====
module

public import Idealize.ShloMosaic.Lib.Pointwise
public import Idealize.ShloMosaic.Lib.IdealHost

/-! # Chunked retention over the extended reals

The value both programs compute, written once: a head's decay factors, the state after each chunk of 128 rows, a chunk's
output row, the head's RMS norm and the gate. Positions are natural numbers; `A b p c` is row `p`, column `c` of sequence
`b` of the projected tokens and `M y c` row `y`, column `c` of the projected meta tokens. Below them are the few facts that
join the two programs' spellings: small integers as reals, the causal mask, the meta tokens' zero rows, and the gate. -/

@[expose] public section

noncomputable section

namespace Cert.Ret

open Idealize.ShloMosaic

/-! ## The value -/

/-- A small number as a float. -/
def num (k : ℕ) : EReal := ((k : ℝ) : EReal)

/-- Head `h`'s log decay, `log (1 - 2 ^ (-5 - h))`, with the base's logarithm as both programs round it. -/
def lgE (h : ℕ) : EReal :=
  Ideal.log1p (-Ideal.exp (Ideal.ofBits .f32 1060205080#32 * (Ideal.ofBits .f32 3231711232#32 - num h)))

/-- The decay from the chunk's start to its row `i`. -/
def xiE (w : EReal) (i : ℕ) : EReal := Ideal.exp (w * (num i + 1))

/-- The decay from the chunk's row `x` to its end. -/
def zetaE (w : EReal) (x : ℕ) : EReal := Ideal.exp (w * ((((127 : ℝ) - (x : ℝ) : ℝ)) : EReal))

/-- The decay over a whole chunk. -/
def decE (w : EReal) : EReal := Ideal.exp (w * Ideal.ofBits .f32 1124073472#32)

/-- The decay from row `j` to row `i` of one chunk, zero for a later `j`. -/
def maskE (w : EReal) (i j : ℕ) : EReal :=
  if j ≤ i then Ideal.exp (w * max ((((i : ℝ) - (j : ℝ) : ℝ)) : EReal) 0) else 0

/-- What a chunk's keys and values add to the state. -/
def kvE (w : EReal) (k v : ℕ → ℕ → EReal) (d e : ℕ) : EReal := ∑ x : Fin 128, k x d * zetaE w x * v x e

/-- What the meta tokens, the last sixteen rows of the chunk before the first, leave as the state. -/
def initE (w : EReal) (k v : ℕ → ℕ → EReal) (d e : ℕ) : EReal := ∑ y : Fin 16, k y d * zetaE w (112 + y) * v y e

/-- The state before chunk `n`. -/
def stateE (w : EReal) (init : ℕ → ℕ → EReal) (k v : ℕ → ℕ → ℕ → EReal) : ℕ → ℕ → ℕ → EReal
  | 0, d, e => init d e
  | n + 1, d, e => stateE w init k v n d e * decE w + kvE w (k n) (v n) d e

/-- Row `i` of a chunk's output: attention within the chunk, and the state's part. -/
def rowE (w : EReal) (q k v : ℕ → ℕ → EReal) (st : ℕ → ℕ → EReal) (i e : ℕ) : EReal :=
  ∑ x : Fin 128, (∑ d : Fin 128, q i d * k x d) * maskE w i x * v x e + ∑ d : Fin 128, q i d * xiE w i * st d e

/-- The head's RMS norm of a row of 256. -/
def normE (o : ℕ → EReal) (e : ℕ) : EReal :=
  o e * Ideal.rsqrt (Ideal.div (∑ x : Fin 256, o x * o x) (Ideal.ofBits .f32 1132462080#32) + Ideal.ofBits .f32 897988541#32)

/-- The state before chunk `n` of head `h` of sequence `b`. -/
def chunkState (A : ℕ → ℕ → ℕ → EReal) (M : ℕ → ℕ → EReal) (b h n : ℕ) : ℕ → ℕ → EReal :=
  stateE (lgE h) (initE (lgE h) (fun y d => M y (512 + (128 * h + d))) (fun y e => M y (1024 + (256 * h + e))))
    (fun n x d => A b (128 * n + x) (512 + (128 * h + d))) (fun n x e => A b (128 * n + x) (1024 + (256 * h + e))) n

/-- The normed output at lane `e` of row `i` of chunk `n` of head `h` of sequence `b`. -/
def headE (A : ℕ → ℕ → ℕ → EReal) (M : ℕ → ℕ → EReal) (b h n i e : ℕ) : EReal :=
  normE (rowE (lgE h) (fun i d => A b (128 * n + i) (128 * h + d)) (fun x d => A b (128 * n + x) (512 + (128 * h + d)))
    (fun x e => A b (128 * n + x) (1024 + (256 * h + e))) (chunkState A M b h n) i) e

/-- The result, for a spelling `s` of the gate's activation. -/
def resE (s : EReal → EReal) (A : ℕ → ℕ → ℕ → EReal) (M : ℕ → ℕ → EReal) (b h n i e : ℕ) : EReal :=
  headE A M b h n i e * s (A b (128 * n + i) (2048 + (256 * h + e)))

/-- `silu` as a quotient. -/
def siluDiv (g : EReal) : EReal := g * Ideal.div 1 (1 + Ideal.exp (-g))

/-- `silu` by the hyperbolic tangent of half the argument. -/
def siluTanh (g : EReal) : EReal :=
  Ideal.ofBits .f32 1056964608#32 * g + Ideal.ofBits .f32 1056964608#32 * g * Ideal.tanh (Ideal.ofBits .f32 1056964608#32 * g)

/-- A row's value reads its chunk and state within their extents. -/
theorem rowE_congr {w : EReal} {q k v q' k' v' st st' : ℕ → ℕ → EReal} {i e : ℕ} (hi : i < 128) (he : e < 256)
    (hq : ∀ x d, x < 128 → d < 128 → q x d = q' x d) (hk : ∀ x d, x < 128 → d < 128 → k x d = k' x d)
    (hv : ∀ x e, x < 128 → e < 256 → v x e = v' x e) (hs : ∀ d e, d < 128 → e < 256 → st d e = st' d e) :
    rowE w q k v st i e = rowE w q' k' v' st' i e := by
  unfold rowE
  refine congrArg₂ _ (Finset.sum_congr rfl fun x _ => ?_) (Finset.sum_congr rfl fun d _ => ?_)
  · rw [hv x e x.isLt he, Finset.sum_congr rfl fun (d : Fin 128) _ => by rw [hq i d hi d.isLt, hk x d x.isLt d.isLt]]
  · rw [hq i d hi d.isLt, hs d e d.isLt he]

/-- The norm reads its row within its extent. -/
theorem normE_congr {o o' : ℕ → EReal} {e : ℕ} (he : e < 256) (h : ∀ e, e < 256 → o e = o' e) : normE o e = normE o' e := by
  unfold normE
  rw [h e he, Finset.sum_congr rfl fun (x : Fin 256) _ => by rw [h x x.isLt]]

/-! ## Small numbers -/

/-- A small word read as a float is its number. -/
theorem sitofp_ofNat {k : ℕ} (hk : k < 2 ^ 31) : (FloatOps.sitofp .f32 (BitVec.ofNat 32 k) : Ideal .f32) = num k := by
  show (((BitVec.ofNat 32 k).toInt : ℝ) : EReal) = ((k : ℝ) : EReal)
  rw [show (BitVec.ofNat 32 k).toInt = (k : ℤ) by
    rw [BitVec.toInt_eq_toNat_cond, BitVec.toNat_ofNat, Nat.mod_eq_of_lt (by omega)]; split <;> omega]
  rfl

/-- The word of 127. -/
theorem word127 : Ideal.ofBits .f32 1123942400#32 = ((127 : ℝ) : EReal) := by
  simp [Ideal.ofBits, Ideal.ieee, -EReal.coe_mul]; norm_num

/-- The word of 15. -/
theorem word15 : Ideal.ofBits .f32 1097859072#32 = ((15 : ℝ) : EReal) := by
  simp [Ideal.ofBits, Ideal.ieee, -EReal.coe_mul]; norm_num

/-- The word of one half. -/
theorem wordHalf : Ideal.ofBits .f32 1056964608#32 = ((1 / 2 : ℝ) : EReal) := by
  simp [Ideal.ofBits, Ideal.ieee, -EReal.coe_mul]; norm_num

/-- The rows' decay with 127 as the programs write it. -/
theorem exp_zeta (w : EReal) {x : ℕ} (hx : x < 2 ^ 31) :
    Ideal.exp (w * (Ideal.ofBits .f32 1123942400#32 - (FloatOps.sitofp .f32 (BitVec.ofNat 32 x) : Ideal .f32))) = zetaE w x := by
  rw [sitofp_ofNat hx, word127, num, ← EReal.coe_sub, zetaE]

/-- Sixteen meta rows counted from their own start have the decays of rows 112 and later of a chunk. -/
theorem exp_zeta_meta (w : EReal) {y : ℕ} (hy : y < 2 ^ 31) :
    Ideal.exp (w * (Ideal.ofBits .f32 1097859072#32 - (FloatOps.sitofp .f32 (BitVec.ofNat 32 y) : Ideal .f32))) = zetaE w (112 + y) := by
  rw [sitofp_ofNat hy, word15, num, ← EReal.coe_sub, zetaE]
  congr 3
  push_cast
  ring

/-- The kernel's mask: from the sign of the integer difference. -/
theorem mask_sub (w : EReal) {i j : ℕ} (hi : i < 128) (hj : j < 128) :
    (if 0 ≤ (FloatOps.sitofp .f32 (IntOp.subi (BitVec.ofNat 32 i) (BitVec.ofNat 32 j)) : Ideal .f32)
      then Ideal.exp (w * max (FloatOps.sitofp .f32 (IntOp.subi (BitVec.ofNat 32 i) (BitVec.ofNat 32 j)) : Ideal .f32) 0) else 0) = maskE w i j := by
  have e : (FloatOps.sitofp .f32 (IntOp.subi (BitVec.ofNat 32 i) (BitVec.ofNat 32 j)) : Ideal .f32) = (((i : ℝ) - (j : ℝ) : ℝ) : EReal) := by
    show (((BitVec.ofNat 32 i - BitVec.ofNat 32 j).toInt : ℝ) : EReal) = _
    rw [show (BitVec.ofNat 32 i - BitVec.ofNat 32 j).toInt = (i : ℤ) - (j : ℤ) by
      rw [BitVec.toInt_eq_toNat_cond, BitVec.toNat_sub, BitVec.toNat_ofNat, BitVec.toNat_ofNat]; split <;> omega]
    push_cast
    rfl
  rw [e, maskE]
  refine if_congr ?_ rfl rfl
  rw [EReal.coe_nonneg, sub_nonneg, Nat.cast_le]

/-- The reference's mask: from the comparison of the row and column numbers. -/
theorem mask_cmp (w : EReal) {i j : ℕ} (hi : i < 128) (hj : j < 128) :
    Scalar.select (IntOp.cmpi .sge (BitVec.ofNat 32 i) (BitVec.ofNat 32 j))
      (Ideal.exp (w * max ((FloatOps.sitofp .f32 (BitVec.ofNat 32 i) : Ideal .f32) - (FloatOps.sitofp .f32 (BitVec.ofNat 32 j) : Ideal .f32)) 0)) (0 : EReal)
      = maskE w i j := by
  rw [sitofp_ofNat (by omega), sitofp_ofNat (by omega), num, num, ← EReal.coe_sub, maskE]
  have e : IntOp.cmpi .sge (BitVec.ofNat 32 i) (BitVec.ofNat 32 j) = BitVec.ofBool (decide (j ≤ i)) := by
    show BitVec.ofBool ((BitVec.ofNat 32 j).sle (BitVec.ofNat 32 i)) = _
    congr 1
    rw [BitVec.sle, show (BitVec.ofNat 32 i).toInt = (i : ℤ) by
      rw [BitVec.toInt_eq_toNat_cond, BitVec.toNat_ofNat, Nat.mod_eq_of_lt (by omega)]; split <;> omega,
      show (BitVec.ofNat 32 j).toInt = (j : ℤ) by
      rw [BitVec.toInt_eq_toNat_cond, BitVec.toNat_ofNat, Nat.mod_eq_of_lt (by omega)]; split <;> omega]
    simp
  rw [e]
  by_cases h : j ≤ i
  · simp [h, Scalar.select]
  · simp [h, Scalar.select]

/-! ## The meta tokens' zero rows -/

/-- A sum of 128 terms that vanish after the sixteenth. -/
theorem sum_head (f : ℕ → EReal) (hf : ∀ x, 16 ≤ x → f x = 0) : ∑ x : Fin 128, f x = ∑ y : Fin 16, f y := by
  rw [show (∑ x : Fin 128, f x) = ∑ x : Fin (16 + 112), f x from rfl, Fin.sum_univ_add]
  rw [show (∑ i : Fin 112, f ↑(Fin.natAdd 16 i)) = 0 from Finset.sum_eq_zero fun i _ => hf _ (by simp)]
  simp

/-- A sum of 128 terms that vanish before the last sixteen. -/
theorem sum_tail (f : ℕ → EReal) (hf : ∀ x, x < 112 → f x = 0) : ∑ x : Fin 128, f x = ∑ y : Fin 16, f (112 + y) := by
  rw [show (∑ x : Fin 128, f x) = ∑ x : Fin (112 + 16), f x from rfl, Fin.sum_univ_add]
  rw [show (∑ i : Fin 112, f ↑(Fin.castAdd 16 i)) = 0 from Finset.sum_eq_zero fun i _ => hf _ (by simp)]
  simp

/-! ## The gate -/

/-- The two spellings of `silu` agree at a real number. (At minus infinity one is `⊥` and the other `⊥ * 0`.) -/
theorem silu_eq (x : ℝ) : siluTanh (x : EReal) = siluDiv (x : EReal) := by
  have hp : (0 : ℝ) < 1 + Real.exp (-x) := by positivity
  have h1 : siluDiv (x : EReal) = ((x * (1 * (1 + Real.exp (-x))⁻¹) : ℝ) : EReal) := by
    have e1 : (1 : EReal) + Ideal.exp (-(x : EReal)) = ((1 + Real.exp (-x) : ℝ) : EReal) := by
      rw [← EReal.coe_neg, EReal.coe_add]; rfl
    rw [siluDiv, e1, Ideal.div, if_neg (by rw [← EReal.coe_zero, EReal.coe_eq_coe_iff]; exact hp.ne'), ← EReal.coe_inv,
      show (1 : EReal) = ((1 : ℝ) : EReal) from rfl, ← EReal.coe_mul, ← EReal.coe_mul]
  have h2 : siluTanh (x : EReal) = ((1 / 2 * x + 1 / 2 * x * Real.tanh (1 / 2 * x) : ℝ) : EReal) := by
    rw [siluTanh, wordHalf, ← EReal.coe_mul, show Ideal.tanh (((1 / 2 * x : ℝ)) : EReal) = ((Real.tanh (1 / 2 * x) : ℝ) : EReal) from rfl,
      ← EReal.coe_mul, ← EReal.coe_add]
  rw [h1, h2, EReal.coe_eq_coe_iff, Real.tanh_eq_sinh_div_cosh, Real.sinh_eq, Real.cosh_eq]
  have ea : Real.exp (-x) = Real.exp (-(1 / 2 * x)) * Real.exp (-(1 / 2 * x)) := by rw [← Real.exp_add]; ring_nf
  have eb : Real.exp (1 / 2 * x) * Real.exp (-(1 / 2 * x)) = 1 := by rw [← Real.exp_add]; simp
  have hu := Real.exp_pos (1 / 2 * x)
  have hv := Real.exp_pos (-(1 / 2 * x))
  rw [ea]
  generalize Real.exp (1 / 2 * x) = u at *
  generalize Real.exp (-(1 / 2 * x)) = v at *
  have hu' : u = v⁻¹ := eq_inv_of_mul_eq_one_left eb
  subst hu'
  have : v⁻¹ + v ≠ 0 := by positivity
  field_simp
  ring

end Cert.Ret

end
-- ==== Proof.RetAt.lean ====
module

public import Idealize.ShloMosaic.Lib.Pointwise

/-! # Arrays as functions of natural numbers -/

@[expose] public section

noncomputable section

namespace Cert.Ret

open Idealize.ShloMosaic

/-- An array of rank three as a function of natural numbers, zero outside. -/
def at3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- An array of rank two as a function of natural numbers, zero outside. -/
def at2 {a b : ℕ} (X : (⟨2, ![a, b]⟩ : Shape).Idx → EReal) (i j : ℕ) : EReal :=
  if h : i < a ∧ j < b then X (ix2 ⟨i, h.1⟩ ⟨j, h.2⟩) else 0

/-- An array of rank one as a function of natural numbers, zero outside. -/
def at1 {a : ℕ} (X : (⟨1, ![a]⟩ : Shape).Idx → EReal) (i : ℕ) : EReal := if h : i < a then X (ix1 ⟨i, h⟩) else 0

theorem at1_ix {a : ℕ} (X : (⟨1, ![a]⟩ : Shape).Idx → EReal) (i : Fin a) : X (ix1 i) = at1 X i := by rw [at1, dif_pos i.isLt]

theorem at3_ix {a b c : ℕ} (X : (⟨3, ![a, b, c]⟩ : Shape).Idx → EReal) (i : Fin a) (j : Fin b) (k : Fin c) :
    X (ix3 i j k) = at3 X i j k := by rw [at3, dif_pos ⟨i.isLt, j.isLt, k.isLt⟩]

theorem at2_ix {a b : ℕ} (X : (⟨2, ![a, b]⟩ : Shape).Idx → EReal) (i : Fin a) (j : Fin b) :
    X (ix2 i j) = at2 X i j := by rw [at2, dif_pos ⟨i.isLt, j.isLt⟩]

end Cert.Ret

end
-- ==== Proof.RetKer.lean ====
module

public import proofs.«01_k».proof.Proof.RetBody
public import proofs.«01_k».proof.Proof.RetSpec
public import proofs.«01_k».proof.Proof.RetAt
public import Idealize.ShloMosaic.Lib.WholeRead
public import Idealize.ShloMosaic.Lib.Pointwise
public import Idealize.ShloMosaic.Lib.Pipeline.ValueKit

/-! # The kernel's value

One grid point's stores, read back, are `bodyE` of the point's blocks; the blocks are columns of the projected tokens and of
the padded meta rows, so the result array is `resE` with the kernel's spelling of `silu`. -/

@[expose] public section

set_option maxRecDepth 16384

noncomputable section

namespace Cert.Ret

open Idealize.ShloMosaic

/-- The meta tokens' state as the kernel sums it, over 128 rows. -/
def initRaw (w : EReal) (km vm : ℕ → ℕ → EReal) (d e : ℕ) : EReal :=
  ∑ x : Fin 128, km x d * Ideal.exp (w * (Ideal.ofBits .f32 1097859072#32 - (FloatOps.sitofp .f32 (BitVec.ofNat 32 x.val) : Ideal .f32))) * vm x e

/-- What a grid point leaves at row `128 n + i`, column `256 h + e` of its block. -/
def bodyE (w : ℕ → EReal) (q k v g km vm : ℕ → ℕ → EReal) (h n i e : ℕ) : EReal :=
  normE (rowE (w h) (fun i d => q (128 * n + i) (128 * h + d)) (fun x d => k (128 * n + x) (128 * h + d)) (fun x e => v (128 * n + x) (256 * h + e))
    (stateE (w h) (initRaw (w h) (fun x d => km x (128 * h + d)) (fun x e => vm x (256 * h + e)))
      (fun n x d => k (128 * n + x) (128 * h + d)) (fun n x e => v (128 * n + x) (256 * h + e)) n) i) e
    * siluTanh (g (128 * n + i) (256 * h + e))

namespace Ker

open Cert.KernelIdeal Cert.KernelIdeal.Gen Idealize.ShloMosaic.TcCoe Idealize.ShloMosaic.Tactic

theorem kvOf_apply (w : EReal) (kb : Vec Ideal S1x128x128 .bf16) (vb : Vec Ideal S1x128x256 .bf16) (d : Fin 128) (e : Fin 256) :
    kvOf (F := Ideal) w kb vb (ix2 d e) = kvE w (at3 kb 0) (at3 vb 0) d e := by
  unfold kvE
  pointwise [kvOf, k0_pay12, k0_pay6, k0_pay10, k0_pay3]
  refine Finset.sum_congr rfl fun x _ => ?_
  rw [exp_zeta _ (by omega)]
  simp only [at3_ix]
  rfl

theorem stepOf_apply (w : EReal) (st kv : FVec Ideal S128x256 .f32) (d : Fin 128) (e : Fin 256) :
    stepOf (F := Ideal) w st kv (ix2 d e) = st (ix2 d e) * decE w + kv (ix2 d e) := by
  pointwise [stepOf, k0_pay17, k0_pay7]
  rfl

theorem initOf_apply (w : EReal) (km : Vec Ideal S128x128 .bf16) (vm : Vec Ideal S128x256 .bf16) (d : Fin 128) (e : Fin 256) :
    initOf (F := Ideal) w km vm (ix2 d e) = initRaw w (at2 km) (at2 vm) d e := by
  unfold initRaw
  pointwise [initOf, k0_pay9, k0_pay8, k0_pay3]
  simp only [at2_ix]

theorem mask_apply (w : EReal) (i j : Fin 128) : k0_pay4 (F := Ideal) w (ix2 i j) = maskE w i j := by
  pointwise [k0_pay4, k0_pay2]
  exact mask_sub w i.isLt j.isLt

theorem outOf_apply (w : EReal) (st : FVec Ideal S128x256 .f32) (qb kb : Vec Ideal S1x128x128 .bf16) (vb gb : Vec Ideal S1x128x256 .bf16) (i : Fin 128) (e : Fin 256) :
    outOf (F := Ideal) w st qb kb vb gb (ix3 0 i e)
      = normE (rowE w (at3 qb 0) (at3 kb 0) (at3 vb 0) (at2 st) i) e * siluTanh (at3 gb 0 i e) := by
  unfold normE rowE siluTanh
  pointwise [outOf, k0_pay16, k0_pay11, k0_pay10, k0_pay5, k0_pay3]
  simp only [mask_apply]
  simp only [at3_ix, at2_ix, sitofp_ofNat (show i.val < 2 ^ 31 by omega)]
  rfl

section Point

variable (i : grid0.Coords)
  (arg2 : Memref sig .tc .smem S4 .f32) (harg2 : arg2.IsWhole) (arg3 : Memref sig .tc .vmem S1x2048x512 .bf16) (harg3 : arg3.IsWhole)
  (arg4 : Memref sig .tc .vmem S1x2048x512 .bf16) (harg4 : arg4.IsWhole) (arg5 : Memref sig .tc .vmem S1x2048x1024 .bf16) (harg5 : arg5.IsWhole)
  (arg6 : Memref sig .tc .vmem S1x2048x1024 .bf16) (harg6 : arg6.IsWhole) (arg7 : Memref sig .tc .vmem S128x512 .bf16) (harg7 : arg7.IsWhole)
  (arg8 : Memref sig .tc .vmem S128x1024 .bf16) (harg8 : arg8.IsWhole) (arg9 : Memref sig .tc .vmem S1x2048x1024 .bf16) (harg9 : arg9.IsWhole)
  (x0 : Vec Ideal S4 .f32) (x1 x2 : Vec Ideal S1x2048x512 .bf16) (x3 x4 : Vec Ideal S1x2048x1024 .bf16) (x5 : Vec Ideal S128x512 .bf16) (x6 : Vec Ideal S128x1024 .bf16)

theorem first_off (h : Fin 4) : k0_off1 i (BitVec.ofNat 32 h.val) 0 = h.val := by
  have h1 : (i 1).val = 0 := Nat.lt_one_iff.mp (i 1).isLt
  have hh := h.isLt
  show (BitVec.ofNat 32 (i 1).val * 4#32 + BitVec.ofNat 32 h.val).toNat = h.val
  rw [h1]
  interval_cases h.val <;> rfl

theorem wordRaw_eq (h : Fin 4) : wordRaw (F := Ideal) i arg2 harg2 x0 h = x0 (ix1 h) := by
  unfold wordRaw
  rw [Memref.IsWhole.readAt_unread]
  refine congrArg x0 (funext fun a => ?_)
  fin_cases a
  refine Fin.ext ?_
  show k0_off1 i (BitVec.ofNat 32 h.val) 0 + 1 * 0 = h.val
  rw [first_off, Nat.mul_zero, Nat.add_zero]

theorem tileQK_apply (n : Fin 16) (h : Fin 4) (r d : Fin 128) :
    tileQK (F := Ideal) arg3 harg3 x1 n h (ix3 0 r d) = at3 x1 0 (128 * n + r) (128 * h + d) := by
  unfold tileQK
  rw [Memref.IsWhole.readAt_unread, at3, dif_pos ⟨Nat.one_pos, by omega, by omega⟩]
  refine congrArg x1 (funext fun a => ?_)
  fin_cases a <;> refine Fin.ext ?_
  · rfl
  · show 128 * n.val + 1 * r.val = _; rw [one_mul]; rfl
  · show 128 * h.val + 1 * d.val = _; rw [one_mul]; rfl

theorem tileVG_apply (n : Fin 16) (h : Fin 4) (r : Fin 128) (e : Fin 256) :
    tileVG (F := Ideal) arg5 harg5 x3 n h (ix3 0 r e) = at3 x3 0 (128 * n + r) (256 * h + e) := by
  unfold tileVG
  rw [Memref.IsWhole.readAt_unread, at3, dif_pos ⟨Nat.one_pos, by omega, by omega⟩]
  refine congrArg x3 (funext fun a => ?_)
  fin_cases a <;> refine Fin.ext ?_
  · rfl
  · show 128 * n.val + 1 * r.val = _; rw [one_mul]; rfl
  · show 256 * h.val + 1 * e.val = _; rw [one_mul]; rfl

theorem metaK_apply (h : Fin 4) (r d : Fin 128) :
    View.readAt (Elt Ideal) arg7.view (Rect.unit (s := S128x512) ![0, 128 * h.val] S128x128.size (inbKm h)).toLoadRect (harg7.unread x5) (ix2 r d)
      = at2 x5 r (128 * h + d) := by
  rw [Memref.IsWhole.readAt_unread, at2, dif_pos ⟨by omega, by omega⟩]
  refine congrArg x5 (funext fun a => ?_)
  fin_cases a <;> refine Fin.ext ?_
  · show 0 + 1 * r.val = _; rw [one_mul, zero_add]; rfl
  · show 128 * h.val + 1 * d.val = _; rw [one_mul]; rfl

theorem metaV_apply (h : Fin 4) (r : Fin 128) (e : Fin 256) :
    View.readAt (Elt Ideal) arg8.view (Rect.unit (s := S128x1024) ![0, 256 * h.val] S128x256.size (inbVm h)).toLoadRect (harg8.unread x6) (ix2 r e)
      = at2 x6 r (256 * h + e) := by
  rw [Memref.IsWhole.readAt_unread, at2, dif_pos ⟨by omega, by omega⟩]
  refine congrArg x6 (funext fun a => ?_)
  fin_cases a <;> refine Fin.ext ?_
  · show 0 + 1 * r.val = _; rw [one_mul, zero_add]; rfl
  · show 256 * h.val + 1 * e.val = _; rw [one_mul]; rfl

/-- The state of the point's blocks. -/
def stateB (h n : ℕ) : ℕ → ℕ → EReal :=
  stateE (at1 x0 h) (initRaw (at1 x0 h) (fun x d => at2 x5 x (128 * h + d)) (fun x e => at2 x6 x (256 * h + e)))
    (fun n x d => at3 x2 0 (128 * n + x) (128 * h + d)) (fun n x e => at3 x3 0 (128 * n + x) (256 * h + e)) n

theorem stateRaw_apply (h : Fin 4) (n : ℕ) (hn : n < 17) (d : Fin 128) (e : Fin 256) :
    stateRaw (F := Ideal) i arg2 harg2 arg4 harg4 arg5 harg5 arg7 harg7 arg8 harg8 x0 x2 x3 x5 x6 h n hn (ix2 d e)
      = stateB x0 x2 x3 x5 x6 h n d e := by
  induction n generalizing d e with
  | zero =>
    rw [stateRaw, stateB, stateE, initOf_apply, wordRaw_eq, at1_ix x0 h]
    refine Finset.sum_congr rfl fun x _ => ?_
    rw [← at2_ix _ x d, ← at2_ix _ x e, metaK_apply, metaV_apply]
  | succ n ih =>
    rw [stateRaw, stepOf_apply, ih, kvOf_apply, wordRaw_eq, at1_ix x0 h]
    unfold stateB
    rw [stateE]
    exact congrArg₂ (· + ·) rfl (Finset.sum_congr rfl fun x _ => congrArg₂ (· * ·)
      (congrArg₂ (· * ·) ((at3_ix _ (0 : Fin 1) x d).symm.trans (tileQK_apply _ _ _ _ h x d)) rfl)
      ((at3_ix _ (0 : Fin 1) x e).symm.trans (tileVG_apply _ _ _ _ h x e)))

theorem pieceOf_apply (h : Fin 4) (n : Fin 16) (r : Fin 128) (e : Fin 256) :
    (pieceOf (F := Ideal) i arg2 harg2 arg3 harg3 arg4 harg4 arg5 harg5 arg6 harg6 arg7 harg7 arg8 harg8 x0 x1 x2 x3 x4 x5 x6 h n).2 (ix3 0 r e)
      = bodyE (at1 x0) (at3 x1 0) (at3 x2 0) (at3 x3 0) (at3 x4 0) (at2 x5) (at2 x6) h n r e := by
  show outOf (F := Ideal) _ _ _ _ _ _ (ix3 0 r e) = _
  rw [outOf_apply, wordRaw_eq, at1_ix x0 h, bodyE]
  refine congrArg₂ (· * ·) (normE_congr e.isLt fun e' he => rowE_congr r.isLt he ?_ ?_ ?_ ?_) (congrArg siluTanh ?_)
  · intro x d hx hd
    exact (at3_ix _ (0 : Fin 1) ⟨x, hx⟩ ⟨d, hd⟩).symm.trans (tileQK_apply _ _ _ n h ⟨x, hx⟩ ⟨d, hd⟩)
  · intro x d hx hd
    exact (at3_ix _ (0 : Fin 1) ⟨x, hx⟩ ⟨d, hd⟩).symm.trans (tileQK_apply _ _ _ n h ⟨x, hx⟩ ⟨d, hd⟩)
  · intro x e hx he
    exact (at3_ix _ (0 : Fin 1) ⟨x, hx⟩ ⟨e, he⟩).symm.trans (tileVG_apply _ _ _ n h ⟨x, hx⟩ ⟨e, he⟩)
  · intro d e hd he
    exact (at2_ix _ ⟨d, hd⟩ ⟨e, he⟩).symm.trans (stateRaw_apply i arg2 harg2 arg4 harg4 arg5 harg5 arg7 harg7 arg8 harg8 x0 x2 x3 x5 x6 h n _ ⟨d, hd⟩ ⟨e, he⟩)
  · exact (at3_ix _ (0 : Fin 1) r e).symm.trans (tileVG_apply _ _ _ n h r e)

/-- What a point leaves in its block. -/
theorem out_apply (c : Dev nD) (p : Fin 2048) (k : Fin 1024) :
    out0_A_7 (F := Ideal) c i arg2 harg2 arg3 harg3 arg4 harg4 arg5 harg5 arg6 harg6 arg7 harg7 arg8 harg8 arg9 harg9 x0 x1 x2 x3 x4 x5 x6 (ix3 0 p k)
      = bodyE (at1 x0) (at3 x1 0) (at3 x2 0) (at3 x3 0) (at3 x4 0) (at2 x5) (at2 x6) (k / 256) (p / 128) (p % 128) (k % 256) := by
  unfold out0_A_7
  rw [pieces_eq]
  refine View.read_writes_apply_of_pieces (Val := Elt Ideal) VO0_7 _
    (fun y : S1x2048x1024.Idx => (show Elt Ideal .bf16 from bodyE (at1 x0) (at3 x1 0) (at3 x2 0) (at3 x3 0) (at3 x4 0) (at2 x5) (at2 x6) ((y 2).val / 256) ((y 1).val / 128) ((y 1).val % 128) ((y 2).val % 256)))
    _ (fun q hq x => ?_) (ix3 0 p k) ?_
  · obtain ⟨j, rfl⟩ := List.mem_ofFn.mp hq
    obtain ⟨z, r, e, rfl⟩ : ∃ (z : Fin 1) (r : Fin 128) (e : Fin 256), x = ix3 z r e := ⟨x 0, x 1, x 2, by funext a; fin_cases a <;> rfl⟩
    obtain rfl : z = 0 := Subsingleton.elim _ _
    refine (pieceOf_apply i arg2 harg2 arg3 harg3 arg4 harg4 arg5 harg5 arg6 harg6 arg7 harg7 arg8 harg8 x0 x1 x2 x3 x4 x5 x6 _ _ r e).trans ?_
    have hj := j.isLt
    have hr := r.isLt
    have he := e.isLt
    show _ = bodyE _ _ _ _ _ _ _ ((256 * (3 - j.val / 16) + 1 * e.val) / 256) ((128 * (15 - j.val % 16) + 1 * r.val) / 128)
      ((128 * (15 - j.val % 16) + 1 * r.val) % 128) ((256 * (3 - j.val / 16) + 1 * e.val) % 256)
    rw [show (256 * (3 - j.val / 16) + 1 * e.val) / 256 = 3 - j.val / 16 by omega, show (128 * (15 - j.val % 16) + 1 * r.val) / 128 = 15 - j.val % 16 by omega,
      show (128 * (15 - j.val % 16) + 1 * r.val) % 128 = r.val by omega, show (256 * (3 - j.val / 16) + 1 * e.val) % 256 = e.val by omega]
  · have hp := p.isLt
    have hk := k.isLt
    refine ⟨_, List.mem_ofFn.mpr ⟨⟨16 * (3 - k.val / 256) + (15 - p.val / 128), by omega⟩, rfl⟩, ?_⟩
    refine (Rect.mem_set_unit (inb := inbVG _ _)).mpr fun a => ?_
    fin_cases a
    · exact ⟨le_rfl, Nat.one_pos⟩
    · show 128 * (15 - (16 * (3 - k.val / 256) + (15 - p.val / 128)) % 16) ≤ p.val ∧ p.val < 128 * (15 - (16 * (3 - k.val / 256) + (15 - p.val / 128)) % 16) + 128
      omega
    · show 256 * (3 - (16 * (3 - k.val / 256) + (15 - p.val / 128)) / 16) ≤ k.val ∧ k.val < 256 * (3 - (16 * (3 - k.val / 256) + (15 - p.val / 128)) / 16) + 256
      omega

end Point

end Ker

end Cert.Ret

end
-- ==== Proof.RetFinal.lean ====
module

public import proofs.«01_k».proof.Proof.RetKer
public import Idealize.ShloMosaic.Lib.StableHlo.RunRead
public import Idealize.ShloMosaic.Lib.StableHlo.RunClose

/-! # The kernel's result array

The blocks the pipeline stages are columns of the two arguments, the padded meta rows are zero from row sixteen on, and the
prepared decays are `lgE`; so the array the kernel leaves is `resE` with the kernel's spelling of `silu`. -/

@[expose] public section

set_option maxRecDepth 16384

noncomputable section

namespace Cert.Ret

open Idealize.ShloMosaic

/-- The state before a chunk reads its rows within their extents. -/
theorem stateE_congr {w : EReal} {init init' : ℕ → ℕ → EReal} {k v k' v' : ℕ → ℕ → ℕ → EReal} {n d e : ℕ} (hd : d < 128) (he : e < 256)
    (hi : init d e = init' d e) (hk : ∀ l x, l < n → x < 128 → k l x d = k' l x d) (hv : ∀ l x, l < n → x < 128 → v l x e = v' l x e) :
    stateE w init k v n d e = stateE w init' k' v' n d e := by
  induction n with
  | zero => exact hi
  | succ n ih =>
    rw [stateE, stateE, ih (fun l x hl hx => hk l x (by omega) hx) (fun l x hl hx => hv l x (by omega) hx), kvE, kvE]
    refine congrArg₂ _ rfl (Finset.sum_congr rfl fun x _ => ?_)
    rw [hk n x (by omega) x.isLt, hv n x (by omega) x.isLt]

/-- The meta tokens' state, with zero rows from row sixteen on. -/
theorem initRaw_eq {w : EReal} {km vm k v : ℕ → ℕ → EReal} {d e : ℕ} (hk : ∀ x, x < 16 → km x d = k x d) (hv : ∀ x, x < 16 → vm x e = v x e)
    (hz : ∀ x, 16 ≤ x → vm x e = 0) : initRaw w km vm d e = initE w k v d e := by
  unfold initRaw initE
  rw [sum_head (fun x => km x d * Ideal.exp (w * (Ideal.ofBits .f32 1097859072#32 - (FloatOps.sitofp .f32 (BitVec.ofNat 32 x) : Ideal .f32))) * vm x e)
    (fun x hx => by rw [hz x hx, mul_zero])]
  refine Finset.sum_congr rfl fun x _ => ?_
  rw [hk x x.isLt, hv x x.isLt, exp_zeta_meta _ (by omega)]

namespace Ker

open Cert.KernelIdeal Cert.KernelIdeal.Gen Idealize.ShloMosaic.TcCoe Idealize.ShloMosaic.Tactic

/-- The heads' log decays as the host prepares them. -/
def lgK : FVec Ideal S4 .f32 := Host.log1p (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))

/-- The meta rows as the host pads them. -/
def zmK (X : FVec Ideal S16x7168 .bf16) : FVec Ideal S128x7168 .bf16 :=
  pad S128x7168 ![0, 0] ![112, 0] ![0, 0] X (sitofp .bf16 (constantI S_ 32 0#32)) pads_S16x7168_S128x7168_01120_000 h_S_

variable (m : (ℓ : Loc nD τ sig) → Buf (Elt Ideal) ℓ) (c : Dev nD)

/-- The projected tokens. -/
def argA : ℕ → ℕ → ℕ → EReal := at3 (m ((c : Thread nD τ).loc main_arg0))

/-- The projected meta tokens. -/
def argM : ℕ → ℕ → EReal := at2 (m ((c : Thread nD τ).loc main_arg1))

theorem idx : ∀ t : Fin cfg0.N, win0_0.index t = ![0] ∧ win0_1.index t = ![(grid0.coords t 0).val, 0, 0] ∧ win0_2.index t = ![(grid0.coords t 0).val, 0, 1]
    ∧ win0_3.index t = ![(grid0.coords t 0).val, 0, 1] ∧ win0_4.index t = ![(grid0.coords t 0).val, 0, 2] ∧ win0_5.index t = ![0, 1]
    ∧ win0_6.index t = ![0, 1] ∧ win0_7.index t = ![(grid0.coords t 0).val, 0, 0] :=
  (by decide +kernel : ∀ t : Fin grid0.N, _)

/-- The prepared decays. -/
theorem entry_lg (h : Fin 4) : V m c main_v7 (ix1 h) = lgE h := by
  have e : V m c main_v7 = lgK := by
    simp only [V, hostOps0, hostOps0_1, List.flatten_cons, List.flatten_nil, List.append_nil, List.cons_append, List.nil_append]
    after_results_entrywise []
  rw [e]
  unfold lgK
  pointwise
  rw [sitofp_ofNat (by omega), lgE]

/-- The padded meta rows. -/
theorem entry_zm (x : Fin 128) (k : Fin 7168) : V m c main_v8 (ix2 x k) = if x.val < 16 then argM m c x k else 0 := by
  have e : V m c main_v8 = zmK (m ((c : Thread nD τ).loc main_arg1)) := by
    simp only [V, hostOps0, hostOps0_1, List.flatten_cons, List.flatten_nil, List.append_nil, List.cons_append, List.nil_append]
    after_results_entrywise []
  rw [e]
  unfold zmK
  pointwise
  rw [argM]
  simp only [at2_ix]
  split_ifs
  · rfl
  · exact (sitofp_ofNat (k := 0) (by norm_num)).trans (by simp [num])

theorem blk0 (t : Fin cfg0.N) (h : Fin 4) : iblk m c 0 t (ix1 h) = lgE h := by
  rw [← entry_lg m c h]
  blk_point [iblk, idx t]

theorem blk1 (t : Fin cfg0.N) (p : Fin 2048) (k : Fin 512) : iblk m c 1 t (ix3 0 p k) = argA m c (grid0.coords t 0).val p k := by
  have hb : (grid0.coords t 0).val < 8 := (grid0.coords t 0).isLt
  rw [argA, at3, dif_pos ⟨hb, p.isLt, by omega⟩]
  blk_point [iblk, V, idx t]

theorem blk2 (t : Fin cfg0.N) (p : Fin 2048) (k : Fin 512) : iblk m c 2 t (ix3 0 p k) = argA m c (grid0.coords t 0).val p (512 + k) := by
  have hb : (grid0.coords t 0).val < 8 := (grid0.coords t 0).isLt
  rw [argA, at3, dif_pos ⟨hb, p.isLt, by omega⟩]
  blk_point [iblk, V, idx t]

theorem blk3 (t : Fin cfg0.N) (p : Fin 2048) (k : Fin 1024) : iblk m c 3 t (ix3 0 p k) = argA m c (grid0.coords t 0).val p (1024 + k) := by
  have hb : (grid0.coords t 0).val < 8 := (grid0.coords t 0).isLt
  rw [argA, at3, dif_pos ⟨hb, p.isLt, by omega⟩]
  blk_point [iblk, V, idx t]

theorem blk4 (t : Fin cfg0.N) (p : Fin 2048) (k : Fin 1024) : iblk m c 4 t (ix3 0 p k) = argA m c (grid0.coords t 0).val p (2048 + k) := by
  have hb : (grid0.coords t 0).val < 8 := (grid0.coords t 0).isLt
  rw [argA, at3, dif_pos ⟨hb, p.isLt, by omega⟩]
  blk_point [iblk, V, idx t]

theorem blk5 (t : Fin cfg0.N) (x : Fin 128) (k : Fin 512) : iblk m c 5 t (ix2 x k) = if x.val < 16 then argM m c x (512 + k) else 0 := by
  refine Eq.trans ?_ (entry_zm m c x ⟨512 + k, by omega⟩)
  blk_point [iblk, idx t]

theorem blk6 (t : Fin cfg0.N) (x : Fin 128) (k : Fin 1024) : iblk m c 6 t (ix2 x k) = if x.val < 16 then argM m c x (1024 + k) else 0 := by
  refine Eq.trans ?_ (entry_zm m c x ⟨1024 + k, by omega⟩)
  blk_point [iblk, idx t]

/-- The result array. -/
def final : FVec Ideal S8x2048x1024 .bf16 := fun y =>
  resE siluTanh (argA m c) (argM m c) (y 0).val ((y 2).val / 256) ((y 1).val / 128) ((y 1).val % 128) ((y 2).val % 256)

theorem point (t : Fin cfg0.N) (p : Fin 2048) (k : Fin 1024) :
    outsAt0 m c t (ix3 0 p k) = resE siluTanh (argA m c) (argM m c) (grid0.coords t 0).val (k / 256) (p / 128) (p % 128) (k % 256) := by
  have hp := p.isLt
  have hk := k.isLt
  unfold outsAt0
  rw [out_apply, bodyE, resE, headE, chunkState]
  have h0 : at1 (iblk m c 0 t) (k.val / 256) = lgE (k.val / 256) :=
    (at1_ix _ ⟨k.val / 256, by omega⟩).symm.trans (blk0 m c t ⟨k.val / 256, by omega⟩)
  have h1 : ∀ p k, p < 2048 → k < 512 → at3 (iblk m c 1 t) 0 p k = argA m c (grid0.coords t 0).val p k := fun p k hp hk =>
    (at3_ix _ (0 : Fin 1) ⟨p, hp⟩ ⟨k, hk⟩).symm.trans (blk1 m c t ⟨p, hp⟩ ⟨k, hk⟩)
  have h2 : ∀ p k, p < 2048 → k < 512 → at3 (iblk m c 2 t) 0 p k = argA m c (grid0.coords t 0).val p (512 + k) := fun p k hp hk =>
    (at3_ix _ (0 : Fin 1) ⟨p, hp⟩ ⟨k, hk⟩).symm.trans (blk2 m c t ⟨p, hp⟩ ⟨k, hk⟩)
  have h3 : ∀ p k, p < 2048 → k < 1024 → at3 (iblk m c 3 t) 0 p k = argA m c (grid0.coords t 0).val p (1024 + k) := fun p k hp hk =>
    (at3_ix _ (0 : Fin 1) ⟨p, hp⟩ ⟨k, hk⟩).symm.trans (blk3 m c t ⟨p, hp⟩ ⟨k, hk⟩)
  have h4 : ∀ p k, p < 2048 → k < 1024 → at3 (iblk m c 4 t) 0 p k = argA m c (grid0.coords t 0).val p (2048 + k) := fun p k hp hk =>
    (at3_ix _ (0 : Fin 1) ⟨p, hp⟩ ⟨k, hk⟩).symm.trans (blk4 m c t ⟨p, hp⟩ ⟨k, hk⟩)
  have h5 : ∀ x k, x < 128 → k < 512 → at2 (iblk m c 5 t) x k = if x < 16 then argM m c x (512 + k) else 0 := fun x k hx hk =>
    (at2_ix _ ⟨x, hx⟩ ⟨k, hk⟩).symm.trans (blk5 m c t ⟨x, hx⟩ ⟨k, hk⟩)
  have h6 : ∀ x k, x < 128 → k < 1024 → at2 (iblk m c 6 t) x k = if x < 16 then argM m c x (1024 + k) else 0 := fun x k hx hk =>
    (at2_ix _ ⟨x, hx⟩ ⟨k, hk⟩).symm.trans (blk6 m c t ⟨x, hx⟩ ⟨k, hk⟩)
  rw [h0]
  refine congrArg₂ (· * ·) (normE_congr (by omega) fun e he => rowE_congr (by omega) he ?_ ?_ ?_ ?_) (congrArg siluTanh ?_)
  · exact fun x d hx hd => h1 _ _ (by omega) (by omega)
  · exact fun x d hx hd => h2 _ _ (by omega) (by omega)
  · exact fun x e hx he => h3 _ _ (by omega) (by omega)
  · intro d e hd he
    refine stateE_congr hd he (initRaw_eq ?_ ?_ ?_) ?_ ?_
    · exact fun x hx => (h5 _ _ (by omega) (by omega)).trans (if_pos hx)
    · exact fun x hx => (h6 _ _ (by omega) (by omega)).trans (if_pos hx)
    · intro x hx
      by_cases hx' : x < 128
      · exact (h6 _ _ hx' (by omega)).trans (if_neg (by omega))
      · exact dif_neg (fun h => hx' h.1)
    · exact fun l x hl hx => h2 _ _ (by omega) (by omega)
    · exact fun l x hl hx => h3 _ _ (by omega) (by omega)
  · exact h4 _ _ (by omega) (by omega)

theorem arr_eq : (dats m 0 c).arrAt 7 cfg0.N = final m c := by
  refine (dats m 0 c).arrAt_eq_of_covers 7 _ (by decide +kernel) fun t _ y => ?_
  blk_simp
  rw [after0_7]
  obtain ⟨z, p, k, rfl⟩ : ∃ (z : Fin 1) (p : Fin 2048) (k : Fin 1024), y = ix3 z p k := ⟨y 0, y 1, y 2, by funext a; fin_cases a <;> rfl⟩
  obtain rfl : z = 0 := Subsingleton.elim _ _
  refine (point m c t p k).trans ?_
  unfold final
  blk_simp [idx t]
  rfl

end Ker

end Cert.Ret

end
-- ==== Proof.RetRefArrays.lean ====
module

public import proofs.«01_k».proof.Proof.Gen.ReferenceIdeal.Run
public import proofs.«01_k».proof.Proof.RetSpec
public import proofs.«01_k».proof.Proof.RetAt
public import Idealize.ShloMosaic.Lib.Pipeline.ValueKit

/-! # The reference's arrays, read entry by entry

The reference's host operations before and after its scan, cut into named arrays (the padded columns, the log decays, the
masks, the chunks' contributions, the output rows), and each read at an index as the value of `RetSpec`. -/

@[expose] public section

set_option maxRecDepth 16384

noncomputable section

namespace Cert.Ret

open Idealize.ShloMosaic

/-- The rows the reference runs over: 112 of zeros, the sixteen meta rows, then the tokens' rows. -/
def padE (A : ℕ → ℕ → ℕ → EReal) (M : ℕ → ℕ → EReal) (b r c : ℕ) : EReal :=
  if r < 112 then 0 else if r < 128 then M (r - 112) c else A b (r - 128) c

namespace Ref

open Cert.ReferenceIdeal Cert.ReferenceIdeal.Gen Cert.ReferenceIdeal.Value Idealize.ShloMosaic.TcCoe Idealize.ShloMosaic.StableHlo Idealize.ShloMosaic.Tactic

/-- The padded columns. -/
def zpad (X0 : FVec Ideal S8x2048x7168 .bf16) (X1 : FVec Ideal S16x7168 .bf16) : FVec Ideal S8x2176x7168 .f32 :=
  pad S8x2176x7168 ![0, 112, 0] ![0, 0, 0] ![0, 0, 0] (concatenate S8x2064x7168 1 [⟨S8x16x7168, (broadcastInDim S8x16x7168 ![0, 1, 2] bcast_S1x16x7168_S8x16x7168_0_1_2 (extf .f32 (broadcastInDim S1x16x7168 ![1, 2] bcast_S16x7168_S1x16x7168_1_2 X1) bitsLt_bf16_f32))⟩, ⟨S8x2048x7168, (extf .f32 X0 bitsLt_bf16_f32)⟩] concatenates_S8x16x7168_S8x2048x7168_S8x2064x7168_d1) (sitofp .f32 (constantI S_ 32 0#32)) pads_S8x2064x7168_S8x2176x7168_000_11200_000 h_S_

/-- The heads' log decays. -/
def lgV : FVec Ideal S4 .f32 := Host.log1p (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))

/-- The masks. -/
def maskV : FVec Ideal S4x128x128 .f32 := select (broadcastInDim S4x128x128 ![0, 1, 2] bcast_S1x128x128_S4x128x128_0_1_2 (broadcastInDim S1x128x128 ![1, 2] bcast_S128x128_S1x128x128_1_2 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))))) (Host.exp (mulf (broadcastInDim S4x128x128 ![0, 1, 2] bcast_S4x1x1_S4x128x128_0_1_2 (broadcastInDim S4x1x1 ![0] bcast_S4_S4x1x1_0 lgV)) (broadcastInDim S4x128x128 ![0, 1, 2] bcast_S1x128x128_S4x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp .f32 (iotaInDim S128 32 0)))) (broadcastInDim S128x128 ![0, 1] bcast_S1x128_S128x128_0_1 (broadcastInDim S1x128 ![1] bcast_S128_S1x128_1 (sitofp .f32 (iotaInDim S128 32 0))))) (broadcastInDim S128x128 ![] bcast_S_S128x128 (constant S_ .f32 0x00000000#32))))))) (broadcastInDim S4x128x128 ![] bcast_S_S4x128x128 (id (constant S_ .f32 0x00000000#32)))

/-- The chunks' contributions to the state. -/
def kvV (Z : FVec Ideal S8x2176x7168 .f32) : FVec Ideal S17x8x4x128x256 .f32 :=
  Host.dotGeneral dot_S8x17x128x4x128_S8x17x128x4x256_S17x8x4x128x256_2_2_4_4_103_103 none (mulf (shapeCast _ (extractStridedSlice S8x2176x512 ![0, 0, 512] Z slices_S8x2176x7168_S8x2176x512_0_0_512) shapeCasts_S8x2176x512_S8x17x128x4x128) (broadcastInDim S8x17x128x4x128 ![0, 1, 2, 3, 4] bcast_S1x1x128x4x1_S8x17x128x4x128_0_1_2_3_4 (broadcastInDim S1x1x128x4x1 ![2, 3] bcast_S128x4_S1x1x128x4x1_2_3 (transpose S128x4 [1, 0] (Host.exp (mulf (broadcastInDim S4x128 ![0, 1] bcast_S4x1_S4x128_0_1 (broadcastInDim S4x1 ![0] bcast_S4_S4x1_0 lgV)) (broadcastInDim S4x128 ![0, 1] bcast_S1x128_S4x128_0_1 (broadcastInDim S1x128 ![1] bcast_S128_S1x128_1 (subf (broadcastInDim S128 ![] bcast_S_S128 (constant S_ .f32 0x42FE0000#32)) (sitofp .f32 (iotaInDim S128 32 0))))))) transposes_S4x128_S128x4_1_0)))) (shapeCast _ (extractStridedSlice S8x2176x1024 ![0, 0, 1024] Z slices_S8x2176x7168_S8x2176x1024_0_0_1024) shapeCasts_S8x2176x1024_S8x17x128x4x256)

/-- The decays over a chunk. -/
def decV : FVec Ideal S1x4x1x1 .f32 :=
  broadcastInDim S1x4x1x1 ![1] bcast_S4_S1x4x1x1_1 (Host.exp (mulf lgV (broadcastInDim S4 ![] bcast_S_S4 (constant S_ .f32 0x43000000#32))))

/-- The output rows before the norm, from the padded columns and the states before the chunks. -/
def rowsV (Z : FVec Ideal S8x2176x7168 .f32) (ST : FVec Ideal S17x8x4x128x256 .f32) : FVec Ideal S8x2176x4x256 .f32 :=
  shapeCast _ (addf (transpose S8x17x128x4x256 [0, 1, 4, 2, 3] (Host.dotGeneral dot_S8x17x128x4x256_S8x17x4x128x128_S8x17x4x256x128_2_4_4_3_013_012 none (shapeCast _ (extractStridedSlice S8x2176x1024 ![0, 0, 1024] Z slices_S8x2176x7168_S8x2176x1024_0_0_1024) shapeCasts_S8x2176x1024_S8x17x128x4x256) (mulf (Host.dotGeneral dot_S8x17x128x4x128_S8x17x128x4x128_S8x17x4x128x128_4_4_2_2_013_013 none (shapeCast _ (extractStridedSlice S8x2176x512 ![0, 0, 0] Z slices_S8x2176x7168_S8x2176x512_0_0_0) shapeCasts_S8x2176x512_S8x17x128x4x128) (shapeCast _ (extractStridedSlice S8x2176x512 ![0, 0, 512] Z slices_S8x2176x7168_S8x2176x512_0_0_512) shapeCasts_S8x2176x512_S8x17x128x4x128)) (broadcastInDim S8x17x4x128x128 ![0, 1, 2, 3, 4] bcast_S1x1x4x128x128_S8x17x4x128x128_0_1_2_3_4 (broadcastInDim S1x1x4x128x128 ![2, 3, 4] bcast_S4x128x128_S1x1x4x128x128_2_3_4 maskV)))) transposes_S8x17x4x256x128_S8x17x128x4x256_0_1_4_2_3) (transpose S8x17x128x4x256 [0, 1, 4, 2, 3] (Host.dotGeneral dot_S17x8x4x128x256_S8x17x128x4x128_S8x17x4x256x128_3_4_4_2_102_013 none ST (mulf (shapeCast _ (extractStridedSlice S8x2176x512 ![0, 0, 0] Z slices_S8x2176x7168_S8x2176x512_0_0_0) shapeCasts_S8x2176x512_S8x17x128x4x128) (broadcastInDim S8x17x128x4x128 ![0, 1, 2, 3, 4] bcast_S1x1x128x4x1_S8x17x128x4x128_0_1_2_3_4 (broadcastInDim S1x1x128x4x1 ![2, 3] bcast_S128x4_S1x1x128x4x1_2_3 (transpose S128x4 [1, 0] (Host.exp (mulf (broadcastInDim S4x128 ![0, 1] bcast_S4x1_S4x128_0_1 (broadcastInDim S4x1 ![0] bcast_S4_S4x1_0 lgV)) (broadcastInDim S4x128 ![0, 1] bcast_S1x128_S4x128_0_1 (broadcastInDim S1x128 ![1] bcast_S128_S1x128_1 (addf (sitofp .f32 (iotaInDim S128 32 0)) (broadcastInDim S128 ![] bcast_S_S128 (constant S_ .f32 0x3F800000#32))))))) transposes_S4x128_S128x4_1_0))))) transposes_S8x17x4x256x128_S8x17x128x4x256_0_1_4_2_3)) shapeCasts_S8x17x128x4x256_S8x2176x4x256

/-- The result. -/
def outV (Z : FVec Ideal S8x2176x7168 .f32) (ST : FVec Ideal S17x8x4x128x256 .f32) : FVec Ideal S8x2048x1024 .bf16 :=
  truncf .bf16 (extractStridedSlice S8x2048x1024 ![0, 128, 0] (mulf (shapeCast _ (mulf (rowsV Z ST) (broadcastInDim S8x2176x4x256 ![0, 1, 2, 3] bcast_S8x2176x4x1_S8x2176x4x256_0_1_2_3 (Host.rsqrt (addf (Host.divf (broadcastInDim S8x2176x4x1 ![0, 1, 2] bcast_S8x2176x4_S8x2176x4x1_0_1_2 (Host.reduceAdd (mulf (rowsV Z ST) (rowsV Z ST)) (constant S_ .f32 0x00000000#32) reducesTo_S8x2176x4x256_S8x2176x4_d3 h_S_)) (broadcastInDim S8x2176x4x1 ![] bcast_S_S8x2176x4x1 (constant S_ .f32 0x43800000#32))) (broadcastInDim S8x2176x4x1 ![] bcast_S_S8x2176x4x1 (constant S_ .f32 0x358637BD#32)))))) shapeCasts_S8x2176x4x256_S8x2176x1024) (mulf (extractStridedSlice S8x2176x1024 ![0, 0, 2048] Z slices_S8x2176x7168_S8x2176x1024_0_0_2048) (Host.divf (broadcastInDim S8x2176x1024 ![] bcast_S_S8x2176x1024 (constant S_ .f32 0x3F800000#32)) (addf (broadcastInDim S8x2176x1024 ![] bcast_S_S8x2176x1024 (constant S_ .f32 0x3F800000#32)) (Host.exp (Host.negf (extractStridedSlice S8x2176x1024 ![0, 0, 2048] Z slices_S8x2176x7168_S8x2176x1024_0_0_2048))))))) slices_S8x2176x1024_S8x2048x1024_0_128_0) bitsLt_bf16_f32

set_option maxHeartbeats 4000000 in
/-- What the operations after the scan make of its contents. -/
theorem out_eq (V0 : Valuation τ sig (Elt Ideal)) :
    out_main_v121 V0 = outV (zpad (V0 (Proc.devRef .tc main_arg0)) (V0 (Proc.devRef .tc main_arg1))) (V0 (Proc.devRef .tc main_v41_4)) := rfl

section Entry

variable (m : (ℓ : Loc nD τ sig) → Buf (Elt Ideal) ℓ) (c : Dev nD)

/-- The chunks' contributions as the scan starts. -/
theorem entry_kv : entryContents preI m c (Proc.devRef .tc main_v41_0)
    = kvV (zpad (m ((c.tc : Thread nD τ).loc main_arg0)) (m ((c.tc : Thread nD τ).loc main_arg1))) := by
  simp only [entryContents, preI, afterL_cons, afterL_nil]
  after_results_entrywise []

/-- The decays as the scan starts. -/
theorem entry_dec : entryContents preI m c (Proc.devRef .tc main_v41_1) = decV := by
  simp only [entryContents, preI, afterL_cons, afterL_nil]
  after_results_entrywise []

/-- The state as the scan starts. -/
theorem entry_state : entryContents preI m c (Proc.devRef .tc main_v41_3)
    = broadcastInDim S8x4x128x256 ![] bcast_S_S8x4x128x256 (constant (F := Ideal) S_ .f32 0x00000000#32) := by
  simp only [entryContents, preI, afterL_cons, afterL_nil]
  after_results_entrywise []

end Entry

theorem zeroV_apply (b : Fin 8) (h : Fin 4) (d : Fin 128) (e : Fin 256) :
    broadcastInDim S8x4x128x256 ![] bcast_S_S8x4x128x256 (constant (F := Ideal) S_ .f32 0x00000000#32) (ix4 b h d e) = 0 := by
  pointwise

theorem lgV_apply (h : Fin 4) : lgV (ix1 h) = lgE h := by
  unfold lgV
  pointwise
  rw [sitofp_ofNat (by omega), lgE]

theorem decV_apply (h : Fin 4) : decV (ix4 0 h 0 0) = decE (lgE h) := by
  unfold decV
  pointwise
  rw [lgV_apply, decE]

theorem maskV_apply (h : Fin 4) (i j : Fin 128) : maskV (ix3 h i j) = maskE (lgE h) i j := by
  unfold maskV
  pointwise
  simp only [lgV_apply]
  rw [show (id (constant (F := Ideal) S_ .f32 0#32) ix0 : EReal) = 0 from Ideal.ofBits_zero_f32]
  exact mask_cmp _ i.isLt j.isLt

theorem zpad_apply (X0 : FVec Ideal S8x2048x7168 .bf16) (X1 : FVec Ideal S16x7168 .bf16) (b : Fin 8) (r : Fin 2176) (k : Fin 7168) :
    zpad X0 X1 (ix3 b r k) = padE (at3 X0) (at2 X1) b r k := by
  unfold zpad padE
  pointwise
  simp only [at3_ix, at2_ix]
  have hr := r.isLt
  by_cases h1 : r.val < 112
  · rw [dif_neg (by omega), if_pos h1]
    exact (sitofp_ofNat (by norm_num)).trans (by simp [num])
  · rw [dif_pos (by omega), if_neg h1]
    by_cases h2 : r.val < 128
    · rw [dif_pos (by omega), if_pos h2]
    · rw [dif_neg (by omega), if_neg h2, Nat.sub_sub]

theorem kvV_apply (Z : FVec Ideal S8x2176x7168 .f32) (n : Fin 17) (b : Fin 8) (h : Fin 4) (d : Fin 128) (e : Fin 256) :
    kvV Z (ix5 n b h d e) = kvE (lgE h) (fun x d => at3 Z b (128 * n + x) (512 + (128 * h + d))) (fun x e => at3 Z b (128 * n + x) (1024 + (256 * h + e))) d e := by
  unfold kvV kvE
  pointwise
  simp only [at3_ix, lgV_apply]
  refine Finset.sum_congr rfl fun x _ => ?_
  rw [exp_zeta _ (by omega), Nat.mul_comm n.val, Nat.mul_comm h.val, Nat.mul_comm h.val]

theorem rowsV_apply (Z : FVec Ideal S8x2176x7168 .f32) (ST : FVec Ideal S17x8x4x128x256 .f32) (n : Fin 17) (b : Fin 8) (h : Fin 4) (i : Fin 128) (e : Fin 256) :
    rowsV Z ST (ix4 b ⟨128 * n + i, by omega⟩ h e) = rowE (lgE h) (fun i d => at3 Z b (128 * n + i) (128 * h + d)) (fun x d => at3 Z b (128 * n + x) (512 + (128 * h + d)))
      (fun x e => at3 Z b (128 * n + x) (1024 + (256 * h + e))) (fun d e => if hd : d < 128 ∧ e < 256 then ST (ix5 n b h ⟨d, hd.1⟩ ⟨e, hd.2⟩) else 0) i e := by
  unfold rowsV rowE
  pointwise
  simp only [lgV_apply, maskV_apply]
  simp only [at3_ix]
  rw [Nat.mul_comm n.val, Nat.mul_comm h.val, Nat.mul_comm h.val, sitofp_ofNat (by omega)]
  refine congrArg₂ _ (Finset.sum_congr rfl fun x _ => mul_comm _ _) (Finset.sum_congr rfl fun x _ => mul_comm _ _)

theorem outV_apply (Z : FVec Ideal S8x2176x7168 .f32) (ST : FVec Ideal S17x8x4x128x256 .f32) (b : Fin 8) (p : Fin 2048) (h : Fin 4) (e : Fin 256) :
    outV Z ST (ix3 b p ⟨256 * h + e, by omega⟩) = normE (fun e => if he : e < 256 then rowsV Z ST (ix4 b ⟨128 + p, by omega⟩ h ⟨e, he⟩) else 0) e
      * siluDiv (at3 Z b (128 + p) (2048 + (256 * h + e))) := by
  unfold outV normE siluDiv
  pointwise
  simp only [at3_ix]

end Ref

end Cert.Ret

end
-- ==== Proof.RetRef.lean ====
module

public import proofs.«01_k».proof.Proof.RetRefArrays
public import Idealize.ShloMosaic.Lib.DynamicIndex

/-! # The reference's value

Its scan leaves, at position `n` of the collected states, the state before chunk `n` of seventeen, the first of them
holding the meta rows. Its result is then `resE` with `silu` as a quotient. -/

@[expose] public section

set_option maxRecDepth 16384

noncomputable section

namespace Cert.Ret.Ref

open Idealize.ShloMosaic Cert.ReferenceIdeal Cert.ReferenceIdeal.Gen Cert.ReferenceIdeal.Value Idealize.ShloMosaic.TcCoe Idealize.ShloMosaic.StableHlo Idealize.ShloMosaic.Tactic

/-- The starts of one trip's slice and update. -/
def starts (C : IVec S_ 32) : Fin 5 → Int := fun k =>
  (((![C, constantI S_ 32 0#32, constantI S_ 32 0#32, constantI S_ 32 0#32, constantI S_ 32 0#32] : Fin 5 → IVec S_ 32)) k (Shape.Idx.first h_S_)).toInt

/-- One trip's state. -/
def stepState (KV : FVec Ideal S17x8x4x128x256 .f32) (D : FVec Ideal S1x4x1x1 .f32) (C : IVec S_ 32) (S : FVec Ideal S8x4x128x256 .f32) : FVec Ideal S8x4x128x256 .f32 :=
  addf (mulf S (broadcastInDim S8x4x128x256 ![0, 1, 2, 3] bcast_S1x4x1x1_S8x4x128x256_0_1_2_3 D))
    (shapeCast S8x4x128x256 (Host.dynamicSlice S1x8x4x128x256 KV (starts C) sliceFits_S17x8x4x128x256_S1x8x4x128x256) shapeCasts_S1x8x4x128x256_S8x4x128x256)

/-- One trip's collected states. -/
def stepAcc (A : FVec Ideal S17x8x4x128x256 .f32) (C : IVec S_ 32) (S : FVec Ideal S8x4x128x256 .f32) : FVec Ideal S17x8x4x128x256 .f32 :=
  Host.dynamicUpdateSlice A (broadcastInDim S1x8x4x128x256 ![1, 2, 3, 4] bcast_S8x4x128x256_S1x8x4x128x256_1_2_3_4 S) (starts C) updateFits_S17x8x4x128x256_S1x8x4x128x256

theorem starts_eq (k : ℕ) (hk : k < 17) : ∀ a, starts (fun _ => BitVec.ofNat 32 k) a = ((![k, 0, 0, 0, 0] : Fin 5 → ℕ) a : Int) := by
  intro a
  fin_cases a
  · exact toInt_ofNat_of_lt (by omega)
  all_goals rfl

theorem slices_at (k : ℕ) (hk : k < 17) : S17x8x4x128x256.Slices (![k, 0, 0, 0, 0] : Fin 5 → ℕ) S1x8x4x128x256 := by
  refine ⟨rfl, fun a => ?_⟩
  fin_cases a
  · show k + 1 ≤ 17; omega
  · show 0 + 8 ≤ 8; omega
  · show 0 + 4 ≤ 4; omega
  · show 0 + 128 ≤ 128; omega
  · show 0 + 256 ≤ 256; omega

theorem stepState_apply (KV : FVec Ideal S17x8x4x128x256 .f32) (D : FVec Ideal S1x4x1x1 .f32) (S : FVec Ideal S8x4x128x256 .f32)
    (k : Fin 17) (b : Fin 8) (h : Fin 4) (d : Fin 128) (e : Fin 256) :
    stepState KV D (fun _ => BitVec.ofNat 32 k.val) S (ix4 b h d e) = S (ix4 b h d e) * D (ix4 0 h 0 0) + KV (ix5 k b h d e) := by
  unfold stepState
  rw [Host.dynamicSlice_eq_extractStridedSlice _ _ _ (![k.val, 0, 0, 0, 0] : Fin 5 → ℕ) _ (slices_at k.val k.isLt) (starts_eq k.val k.isLt)]
  pointwise

theorem stepAcc_apply (A : FVec Ideal S17x8x4x128x256 .f32) (S : FVec Ideal S8x4x128x256 .f32)
    (k n : Fin 17) (b : Fin 8) (h : Fin 4) (d : Fin 128) (e : Fin 256) :
    stepAcc A (fun _ => BitVec.ofNat 32 k.val) S (ix5 n b h d e) = if n = k then S (ix4 b h d e) else A (ix5 n b h d e) := by
  unfold stepAcc
  rw [Host.dynamicUpdateSlice_eq_updateSlice _ _ _ _ (![k.val, 0, 0, 0, 0] : Fin 5 → ℕ) (fun a => by
    have h := (slices_at k.val k.isLt).2 a
    rw [starts_eq k.val k.isLt a]; omega) (slices_at k.val k.isLt)]
  pointwise
  by_cases e' : n = k
  · rw [dif_pos ⟨by rw [e'], by rw [e']; omega⟩, if_pos e']
  · have : n.val ≠ k.val := fun h => e' (Fin.ext h)
    rw [dif_neg (by omega), if_neg e']

theorem step3_eq (V0 : Valuation τ sig (Elt Ideal)) : step_main_v41_3 V0
    = stepState (V0 (Proc.devRef .tc main_v41_0)) (V0 (Proc.devRef .tc main_v41_1)) (V0 (Proc.devRef .tc main_v41_2)) (V0 (Proc.devRef .tc main_v41_3)) := rfl

theorem step4_eq (V0 : Valuation τ sig (Elt Ideal)) : step_main_v41_4 V0
    = stepAcc (V0 (Proc.devRef .tc main_v41_4)) (V0 (Proc.devRef .tc main_v41_2)) (V0 (Proc.devRef .tc main_v41_3)) := by
  unfold step_main_v41_4 stepAcc starts
  exact id_eq _

/-- The state before the reference's chunk `n` of seventeen, over its padded columns. -/
def scanE (Z : ℕ → ℕ → ℕ → EReal) (b h n : ℕ) : ℕ → ℕ → EReal :=
  stateE (lgE h) (fun _ _ => 0) (fun n x d => Z b (128 * n + x) (512 + (128 * h + d))) (fun n x e => Z b (128 * n + x) (1024 + (256 * h + e))) n

/-- The contents before trip `k`: the counter, the arrays the scan only reads, the state and the states collected so far. -/
structure Before (Z : FVec Ideal S8x2176x7168 .f32) (k : ℕ) (C : IVec S_ 32) (KV : FVec Ideal S17x8x4x128x256 .f32) (D : FVec Ideal S1x4x1x1 .f32)
    (S : FVec Ideal S8x4x128x256 .f32) (A : FVec Ideal S17x8x4x128x256 .f32) : Prop where
  ctr : C = fun _ => BitVec.ofNat 32 k
  kv : KV = kvV Z
  dec : D = decV
  state : ∀ (b : Fin 8) (h : Fin 4) (d : Fin 128) (e : Fin 256), S (ix4 b h d e) = scanE (at3 Z) b h k d e
  acc : ∀ (n : Fin 17), n.val < k → ∀ (b : Fin 8) (h : Fin 4) (d : Fin 128) (e : Fin 256), A (ix5 n b h d e) = scanE (at3 Z) b h n d e

theorem Before.step {Z : FVec Ideal S8x2176x7168 .f32} {k : ℕ} {C : IVec S_ 32} {KV : FVec Ideal S17x8x4x128x256 .f32} {D : FVec Ideal S1x4x1x1 .f32}
    {S : FVec Ideal S8x4x128x256 .f32} {A : FVec Ideal S17x8x4x128x256 .f32} (hb : Before Z k C KV D S A) (hk : k < 17) :
    Before Z (k + 1) (id (addi C (constantI S_ 32 1#32))) KV D (stepState KV D C S) (stepAcc A C S) := by
  obtain ⟨rfl, rfl, rfl, hs, ha⟩ := hb
  refine ⟨?_, rfl, rfl, ?_, ?_⟩
  · funext j
    show BitVec.ofNat 32 k + 1#32 = BitVec.ofNat 32 (k + 1)
    rw [BitVec.ofNat_add]
  · intro b h d e
    rw [stepState_apply (k := ⟨k, hk⟩), hs, decV_apply, kvV_apply]
    rfl
  · intro n hn b h d e
    rw [stepAcc_apply (k := ⟨k, hk⟩)]
    by_cases e' : n = ⟨k, hk⟩
    · rw [if_pos e', hs, e']
    · rw [if_neg e']
      exact ha n (by have : n.val ≠ k := fun e => e' (Fin.ext e); omega) b h d e

section Scan

variable (m : (ℓ : Loc nD τ sig) → Buf (Elt Ideal) ℓ) (c : Dev nD)

/-- The padded columns of the launch's arguments. -/
def zOf : FVec Ideal S8x2176x7168 .f32 := zpad (m ((c.tc : Thread nD τ).loc main_arg0)) (m ((c.tc : Thread nD τ).loc main_arg1))

theorem before (k : ℕ) (hk : k ≤ 17) : Before (zOf m c) k ((STEP^[k] (entryContents preI m c)) (Proc.devRef .tc main_v41_2))
    ((STEP^[k] (entryContents preI m c)) (Proc.devRef .tc main_v41_0)) ((STEP^[k] (entryContents preI m c)) (Proc.devRef .tc main_v41_1))
    ((STEP^[k] (entryContents preI m c)) (Proc.devRef .tc main_v41_3)) ((STEP^[k] (entryContents preI m c)) (Proc.devRef .tc main_v41_4)) := by
  induction k with
  | zero =>
    refine ⟨ctr_entry m c, entry_kv m c, entry_dec m c, fun b h d e => ?_, fun n hn => absurd hn (by omega)⟩
    rw [Function.iterate_zero, id_eq, entry_state]
    exact zeroV_apply b h d e
  | succ k ih =>
    have h := (ih (by omega)).step (by omega)
    rw [Function.iterate_succ_apply', STEP_main_v41_0, STEP_main_v41_1, STEP_main_v41_2, STEP_main_v41_3, STEP_main_v41_4, step3_eq, step4_eq]
    exact h

end Scan

/-- Counted from the chunk after the meta rows, the scan's states are `chunkState`'s. -/
theorem scan_succ (A : ℕ → ℕ → ℕ → EReal) (M : ℕ → ℕ → EReal) (b h n d e : ℕ) :
    scanE (padE A M) b h (n + 1) d e = chunkState A M b h n d e := by
  induction n generalizing d e with
  | zero =>
    simp only [scanE, chunkState, stateE]
    rw [zero_mul, zero_add, kvE, initE, sum_tail (fun x => padE A M b (128 * 0 + x) (512 + (128 * h + d)) * zetaE (lgE h) x * padE A M b (128 * 0 + x) (1024 + (256 * h + e)))]
    · refine Finset.sum_congr rfl fun y _ => ?_
      have hy := y.isLt
      simp only [padE]
      rw [if_neg (by omega), if_pos (by omega), if_neg (by omega), if_pos (by omega), show 128 * 0 + (112 + y.val) - 112 = y.val by omega]
    · intro x hx
      simp only [padE]
      rw [if_pos (by omega), if_pos (by omega), zero_mul, zero_mul]
  | succ n ih =>
    show scanE (padE A M) b h (n + 1) d e * _ + kvE _ _ _ d e = chunkState A M b h n d e * _ + kvE _ _ _ d e
    rw [ih]
    refine congrArg₂ (· + ·) rfl (Finset.sum_congr rfl fun x _ => ?_)
    have hx := x.isLt
    simp only [padE]
    rw [if_neg (by omega), if_neg (by omega), if_neg (by omega), if_neg (by omega), show 128 * (n + 1) + x.val - 128 = 128 * n + x.val by omega]

/-- Chunk `n + 1` of the padded rows is chunk `n` of the tokens. -/
theorem padE_succ (A : ℕ → ℕ → ℕ → EReal) (M : ℕ → ℕ → EReal) (b n x k : ℕ) : padE A M b (128 * (n + 1) + x) k = A b (128 * n + x) k := by
  rw [padE, if_neg (by omega), if_neg (by omega), show 128 * (n + 1) + x - 128 = 128 * n + x by omega]

/-- An array that reads as `padE` entry by entry reads so as a function of natural numbers. -/
theorem at3_zpad (X0 : FVec Ideal S8x2048x7168 .bf16) (X1 : FVec Ideal S16x7168 .bf16) {b r k : ℕ} (hb : b < 8) (hr : r < 2176) (hk : k < 7168) :
    at3 (zpad X0 X1) b r k = padE (at3 X0) (at2 X1) b r k := by
  rw [at3, dif_pos ⟨hb, hr, hk⟩, zpad_apply]

section Result

variable (m : (ℓ : Loc nD τ sig) → Buf (Elt Ideal) ℓ) (c : Dev nD)

theorem scan_zpad (X0 : FVec Ideal S8x2048x7168 .bf16) (X1 : FVec Ideal S16x7168 .bf16) (b : Fin 8) (h : Fin 4) {n : ℕ} (hn : n ≤ 17) (d : Fin 128) (e : Fin 256) :
    scanE (at3 (zpad X0 X1)) b h n d e = scanE (padE (at3 X0) (at2 X1)) b h n d e := by
  induction n with
  | zero => rfl
  | succ n ih =>
    show scanE _ b h n d e * _ + kvE _ _ _ d e = scanE _ b h n d e * _ + kvE _ _ _ d e
    rw [ih (by omega)]
    congr 1
    refine Finset.sum_congr rfl fun x _ => ?_
    simp only []
    rw [at3_zpad X0 X1 b.isLt (by omega) (by omega), at3_zpad X0 X1 b.isLt (by omega) (by omega)]

/-- The reference's result at row `128 n + i`, column `256 h + e` of sequence `b`. -/
theorem result (b : Fin 8) (n : Fin 16) (i : Fin 128) (h : Fin 4) (e : Fin 256) :
    outV (zOf m c) ((STEP^[17] (entryContents preI m c)) (Proc.devRef .tc main_v41_4)) (ix3 b ⟨128 * n + i, by omega⟩ ⟨256 * h + e, by omega⟩)
      = resE siluDiv (at3 (m ((c.tc : Thread nD τ).loc main_arg0))) (at2 (m ((c.tc : Thread nD τ).loc main_arg1))) b h n i e := by
  have hacc := (before m c 17 le_rfl).acc
  rw [outV_apply, resE, headE]
  refine congrArg₂ (· * ·) (normE_congr e.isLt fun e' he => ?_) (congrArg siluDiv ?_)
  · rw [dif_pos he, show (⟨128 + (128 * n.val + i.val), by omega⟩ : Fin 2176) = ⟨128 * (⟨n.val + 1, by omega⟩ : Fin 17).val + i.val, by simp only []; omega⟩
      from Fin.ext (by simp only []; omega)]
    refine (rowsV_apply (zOf m c) _ ⟨n.val + 1, by omega⟩ b h i ⟨e', he⟩).trans (rowE_congr i.isLt he ?_ ?_ ?_ ?_)
    · intro x d hx hd
      show at3 (zpad _ _) _ _ _ = _
      rw [at3_zpad _ _ b.isLt (by simp only []; omega) (by omega), padE_succ]
    · intro x d hx hd
      show at3 (zpad _ _) _ _ _ = _
      rw [at3_zpad _ _ b.isLt (by simp only []; omega) (by omega), padE_succ]
    · intro x d hx hd
      show at3 (zpad _ _) _ _ _ = _
      rw [at3_zpad _ _ b.isLt (by simp only []; omega) (by omega), padE_succ]
    · intro d e hd he
      rw [dif_pos ⟨hd, he⟩, hacc ⟨n.val + 1, by omega⟩ (by simp only []; omega) b h ⟨d, hd⟩ ⟨e, he⟩, ← scan_succ]
      exact scan_zpad _ _ b h (by simp only []; omega) ⟨d, hd⟩ ⟨e, he⟩
  · show at3 (zpad _ _) _ _ _ = _
    rw [at3_zpad _ _ b.isLt (by omega) (by omega), show 128 + (128 * n.val + i.val) = 128 * (n.val + 1) + i.val by omega, padE_succ]

end Result

end Cert.Ret.Ref

end
-- ==== Proof.RetPre.lean ====
module

public import proofs.«01_k».proof.Defs
public import proofs.«01_k».proof.Proof.Gen.Pre_gates_finite
public import proofs.«01_k».proof.Proof.RetSpec
public import proofs.«01_k».proof.Proof.RetAt
public import Idealize.ShloMosaic.Lib.ReduceAll

/-! # The precondition: every gate is a real number -/

@[expose] public section

noncomputable section

namespace Cert.Ret

open Idealize.ShloMosaic

/-- An extended real of which the absolute value is below the infinity's word is a real number. -/
theorem real_of_abs {x : EReal} (h : Ideal.cmp .olt (max x (-x)) (Ideal.ofBits .f32 0x7F800000#32) = 1#1) : ∃ r : ℝ, x = (r : EReal) := by
  rw [show Ideal.ofBits .f32 0x7F800000#32 = ⊤ from by simp [Ideal.ofBits, Ideal.ieee]] at h
  induction x using EReal.rec with
  | bot => simp [Ideal.cmp] at h
  | coe r => exact ⟨r, rfl⟩
  | top => simp [Ideal.cmp] at h

/-- Under the precondition every gate is a real number, so the two spellings of its activation agree. -/
theorem silu_gate [Cert.Pre_gates_finite.Facts] {X0 : FVec Ideal Cert.Pre_gates_finite.S8x2048x7168 .bf16} {X1 : FVec Ideal Cert.Pre_gates_finite.S16x7168 .bf16}
    (hp : Cert.Pre_gates_finite.fn X0 X1 = fun _ => 1#1) {b p k : ℕ} (hb : b < 8) (hr : p < 2048) (hk : k < 1024) :
    siluTanh (at3 X0 b p (2048 + k)) = siluDiv (at3 X0 b p (2048 + k)) := by
  have h := congrFun hp ix0
  dsimp only [Cert.Pre_gates_finite.fn] at h
  have h' := Host.reduce_andi_all _ _ _ _ _ h (ix3 ⟨b, hb⟩ ⟨p, hr⟩ ⟨k, hk⟩)
  obtain ⟨r, e⟩ := real_of_abs (x := at3 X0 b p (2048 + k)) (by
    rw [at3, dif_pos ⟨hb, hr, by omega⟩]
    refine Eq.trans (congrArg (fun z : EReal => Ideal.cmp .olt (max z (-z)) (Ideal.ofBits .f32 0x7F800000#32)) (congrArg X0 (funext fun a => ?_))) h'
    fin_cases a <;> refine Fin.ext ?_
    · exact (Nat.zero_add b).symm
    · exact (Nat.zero_add p).symm
    · rfl)
  rw [e, silu_eq]

end Cert.Ret

end
-- ==== Proof.Ret.lean ====
module

public import proofs.«01_k».proof.Defs
public import proofs.«01_k».proof.Proof.RetFinal
public import proofs.«01_k».proof.Proof.RetRef
public import proofs.«01_k».proof.Proof.RetPre
public import Idealize.ShloMosaic.Lib.Quiescent

/-! # The retention's claims

The reference's frame, and the equality of the kernel's and the reference's results under the precondition. -/

@[expose] public section

set_option maxRecDepth 16384

noncomputable section

namespace Cert.Ret

open Idealize.ShloMosaic Idealize.ShloMosaic.TcCoe Idealize.SL.Sem

/-- The reference's frame: it declares no semaphore, so the counters are zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems rfl _⟩) (Cert.ReferenceIdeal.Value.run m g)

/-- The two results agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_gates_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.out_main_v121 (F := Ideal) (Cert.ReferenceIdeal.Value.STEP^[17] (StableHlo.entryContents Cert.ReferenceIdeal.Value.preI m' c)) = Ker.final m c := by
  rw [Ref.out_eq, Cert.ReferenceIdeal.Value.iter_main_arg0 m' c 17, Cert.ReferenceIdeal.Value.iter_main_arg1 m' c 17]
  funext y
  obtain ⟨b, p, k, rfl⟩ : ∃ (b : Fin 8) (p : Fin 2048) (k : Fin 1024), y = ix3 b p k := ⟨y 0, y 1, y 2, by funext a; fin_cases a <;> rfl⟩
  have hpb := p.isLt
  have hk := k.isLt
  have key := Ref.result m' c b ⟨p.val / 128, by omega⟩ ⟨p.val % 128, by omega⟩ ⟨k.val / 256, by omega⟩ ⟨k.val % 256, by omega⟩
  rw [show (⟨128 * (p.val / 128) + p.val % 128, by omega⟩ : Fin 2048) = p from Fin.ext (by simp only []; omega),
    show (⟨256 * (k.val / 256) + k.val % 256, by omega⟩ : Fin 1024) = k from Fin.ext (by simp only []; omega)] at key
  refine Eq.trans key ?_
  rw [h0, h1]
  show _ = resE siluTanh (Ker.argA m c) (Ker.argM m c) b.val (k.val / 256) (p.val / 128) (p.val % 128) (k.val % 256)
  rw [resE, resE]
  refine congrArg₂ (· * ·) rfl ?_
  exact (silu_gate (hp c) b.isLt (by simp only []; omega) (by simp only []; omega)).symm

/-- The value claim. -/
theorem algebraic : Cert.algebraic_KernelIdeal_ReferenceIdeal_pre_gates_finite := by
  intro m g m' g' hp hag
  refine ⟨fun c => Ker.final m c, (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · exact ⟨(h c).1.trans (Ker.arr_eq m c), (h c).2⟩
  · exact ⟨(h c).1.trans (result_eq m m' c hp (hag c).1 (hag c).2), (h c).2⟩

end Cert.Ret

end
-- ==== Proof.OutKer.lean ====
module

public import proofs.«01_k».proof.Proof.RetAt
public import proofs.«01_k».proof.Proof.Gen.Kernel2Ideal.Value
public import Idealize.ShloMosaic.Lib.VecWindow
public import Idealize.ShloMosaic.Lib.WholeRead
public import Idealize.ShloMosaic.Lib.Pointwise
public import Idealize.ShloMosaic.Lib.Pipeline.ValueKit
public import Idealize.ShloMosaic.Lib.StableHlo.RunRead
public import Idealize.ShloMosaic.Lib.StableHlo.RunClose

/-! # The output projection's kernel

One row of the result is the residual row `x + yr · w₀ + yf · w₁`, with `w₀` and `w₁` the upper and the lower half of the
weights, RMS-normed and scaled. The body writes its block as four tiles of 256 rows; the weights it multiplies by are a scratch
buffer the first point fills and no later point changes. -/

@[expose] public section

set_option maxRecDepth 16384

noncomputable section

namespace Cert.Outp

open Idealize.ShloMosaic Cert.Ret

/-! ## The value -/

/-- One element of the residual stream after both mixers' projections. -/
def hidE (x yr yf : ℕ → EReal) (w : ℕ → ℕ → EReal) (k : ℕ) : EReal :=
  x k + ∑ j : Fin 1024, yr j * w j k + ∑ j : Fin 1024, yf j * w (1024 + j) k

/-- One element of a row's RMS norm. -/
def rmsE (h g : ℕ → EReal) (k : ℕ) : EReal :=
  h k * Ideal.rsqrt (Ideal.div (∑ j : Fin 1024, h j * h j) (Ideal.ofBits .f32 1149239296#32) + Ideal.ofBits .f32 897988541#32) * g k

theorem hidE_congr {x yr yf x' yr' yf' : ℕ → EReal} {w w' : ℕ → ℕ → EReal} {k : ℕ} (hk : k < 1024) (hx : ∀ j, j < 1024 → x j = x' j)
    (hr : ∀ j, j < 1024 → yr j = yr' j) (hf : ∀ j, j < 1024 → yf j = yf' j) (hw : ∀ j k, j < 2048 → k < 1024 → w j k = w' j k) :
    hidE x yr yf w k = hidE x' yr' yf' w' k := by
  unfold hidE
  refine congrArg₂ _ (congrArg₂ _ (hx k hk) (Finset.sum_congr rfl fun j _ => ?_)) (Finset.sum_congr rfl fun j _ => ?_)
  · rw [hr j j.isLt, hw j k (by omega) hk]
  · rw [hf j j.isLt, hw _ k (by omega) hk]

theorem rmsE_congr {h g h' g' : ℕ → EReal} {k : ℕ} (hk : k < 1024) (hh : ∀ j, j < 1024 → h j = h' j) (hg : ∀ j, j < 1024 → g j = g' j) :
    rmsE h g k = rmsE h' g' k := by
  unfold rmsE
  rw [hh k hk, hg k hk, Finset.sum_congr rfl fun (j : Fin 1024) _ => by rw [hh j j.isLt]]

/-! ## The body -/

namespace Ker

open Cert.Kernel2Ideal Cert.Kernel2Ideal.Gen Idealize.ShloMosaic.TcCoe Idealize.ShloMosaic.Tactic

section Family

variable {F : FTy → Type} [FloatOps F]

theorem inbRow (n : Fin 4) : ∀ a, (![256 * n.val, 0] : Fin 2 → ℕ) a + S256x1024.size a ≤ S1024x1024.size a := by
  intro a
  have hn := n.isLt
  fin_cases a
  · show 256 * n.val + 256 ≤ 1024; omega
  · show 0 + 1024 ≤ 1024; omega

variable (arg1 : Memref sig .tc .vmem S1024x1024 .bf16) (harg1 : arg1.IsWhole) (arg2 : Memref sig .tc .vmem S1024x1024 .bf16) (harg2 : arg2.IsWhole)
  (arg3 : Memref sig .tc .vmem S1024x1024 .f32) (harg3 : arg3.IsWhole) (arg4 : Memref sig .tc .vmem S2048x1024 .f32) (harg4 : arg4.IsWhole)
  (arg5 : Memref sig .tc .vmem S1x1024 .f32) (harg5 : arg5.IsWhole) (arg6 : Memref sig .tc .vmem S1024x1024 .f32) (harg6 : arg6.IsWhole)
  (arg7 : Memref sig .tc .vmem S2048x1024 .bf16) (harg7 : arg7.IsWhole)
  (x0 x1 : Vec F S1024x1024 .bf16) (x2 : Vec F S1024x1024 .f32) (x3 : Vec F S2048x1024 .f32) (x4 : Vec F S1x1024 .f32) (xs : Vec F S2048x1024 .bf16)
  (w0 w1 : Vec F S1024x1024 .bf16)

/-- A tile of 256 rows, as the body loads it. -/
def tile {e : EltTy} (arg : Memref sig .tc .vmem S1024x1024 e) (harg : arg.IsWhole) (x : Vec F S1024x1024 e) (n : Fin 4) : Vec F S256x1024 e :=
  View.readAt (Elt F) arg.view (Rect.unit (s := S1024x1024) ![256 * n.val, 0] S256x1024.size (inbRow n)).toLoadRect (harg.unread x)

/-- The scale row, as the body loads it. -/
def scaleRow : Vec F S1x1024 .f32 :=
  View.readAt (Elt F) arg5.view (Rect.unit (s := S1x1024) ![0, 0] S1x1024.size inb_S1x1024_S1x1024_0_0).toLoadRect (harg5.unread x4)

/-- The store of tile `n`, from the two halves of the weights. -/
def pieceOf (n : Fin 4) : View.Piece (Elt F) S1024x1024 .f32 :=
  ⟨Rect.unit ![256 * n.val, 0] S256x1024.size (inbRow n),
    k0_pay3 (tile arg3 harg3 x2 n) (tile arg1 harg1 x0 n) w0 (tile arg2 harg2 x1 n) w1 (scaleRow arg5 harg5 x4)⟩

/-- The weights the first point stores. -/
def wPay : FVec F S2048x1024 .bf16 :=
  k0_pay2 (View.readAt (Elt F) arg4.view (Rect.unit (s := S2048x1024) ![0, 0] S2048x1024.size inb_S2048x1024_S2048x1024_0_0).toLoadRect (harg4.unread x3))

/-- The first point's store into the scratch. -/
def wPiece : View.Piece (Elt F) S2048x1024 .bf16 :=
  ⟨Rect.unit ![0, 0] S2048x1024.size inb_S2048x1024_S2048x1024_0_0, wPay arg4 harg4 x3⟩

theorem pieces_A (c : Dev nD) (i : grid0.Coords) (hc0 : cond0_0 i) :
    (kernelRun0_A c i arg1 harg1 arg2 harg2 arg3 harg3 arg4 harg4 arg5 harg5 arg6 harg6 arg7 harg7 hc0 x0 x1 x2 x3 x4).1
      = List.ofFn fun k : Fin 4 => pieceOf arg1 harg1 arg2 harg2 arg3 harg3 arg5 harg5 x0 x1 x2 x4
        (arg7.view.readCov [wPiece arg4 harg4 x3] (Rect.unit (s := S2048x1024) ![0, 0] S1024x1024.size inb_S2048x1024_S1024x1024_0_0).toLoadRect)
        (arg7.view.readCov [wPiece arg4 harg4 x3] (Rect.unit (s := S2048x1024) ![1024, 0] S1024x1024.size inb_S2048x1024_S1024x1024_1024_0).toLoadRect)
        ⟨3 - k.val, by omega⟩ := by
  sl_kernel_rfl

theorem scratch_A (c : Dev nD) (i : grid0.Coords) (hc0 : cond0_0 i) :
    (kernelRun0_A c i arg1 harg1 arg2 harg2 arg3 harg3 arg4 harg4 arg5 harg5 arg6 harg6 arg7 harg7 hc0 x0 x1 x2 x3 x4).2.1
      = [wPiece arg4 harg4 x3] := by
  sl_kernel_rfl

theorem pieces_B (c : Dev nD) (i : grid0.Coords) (hc0 : ¬cond0_0 i) :
    (kernelRun0_B c i arg1 harg1 arg2 harg2 arg3 harg3 arg4 harg4 arg5 harg5 arg6 harg6 arg7 harg7 hc0 x0 x1 x2 x3 x4 xs).1
      = List.ofFn fun k : Fin 4 => pieceOf arg1 harg1 arg2 harg2 arg3 harg3 arg5 harg5 x0 x1 x2 x4
        (View.readAt (Elt F) arg7.view (Rect.unit (s := S2048x1024) ![0, 0] S1024x1024.size inb_S2048x1024_S1024x1024_0_0).toLoadRect (harg7.unread xs))
        (View.readAt (Elt F) arg7.view (Rect.unit (s := S2048x1024) ![1024, 0] S1024x1024.size inb_S2048x1024_S1024x1024_1024_0).toLoadRect (harg7.unread xs))
        ⟨3 - k.val, by omega⟩ := by
  sl_kernel_rfl

end Family

/-! ## The body's values -/

theorem pay3_apply (a : Vec Ideal S256x1024 .f32) (b d : Vec Ideal S256x1024 .bf16) (w0 w1 : Vec Ideal S1024x1024 .bf16) (g : Vec Ideal S1x1024 .f32)
    (w : ℕ → ℕ → EReal) (h0 : ∀ j k : Fin 1024, w0 (ix2 j k) = w j k) (h1 : ∀ j k : Fin 1024, w1 (ix2 j k) = w (1024 + j) k)
    (r : Fin 256) (k : Fin 1024) :
    k0_pay3 (F := Ideal) a b w0 d w1 g (ix2 r k) = rmsE (hidE (at2 a r) (at2 b r) (at2 d r) w) (at2 g 0) k := by
  unfold rmsE hidE
  pointwise [k0_pay3]
  simp only [h0, h1]
  simp only [at2_ix]
  rfl

theorem pay2_apply (x : Vec Ideal S2048x1024 .f32) (j : Fin 2048) (k : Fin 1024) : k0_pay2 (F := Ideal) x (ix2 j k) = x (ix2 j k) := by
  pointwise [k0_pay2]

section Point

variable (arg1 : Memref sig .tc .vmem S1024x1024 .bf16) (harg1 : arg1.IsWhole) (arg2 : Memref sig .tc .vmem S1024x1024 .bf16) (harg2 : arg2.IsWhole)
  (arg3 : Memref sig .tc .vmem S1024x1024 .f32) (harg3 : arg3.IsWhole) (arg4 : Memref sig .tc .vmem S2048x1024 .f32) (harg4 : arg4.IsWhole)
  (arg5 : Memref sig .tc .vmem S1x1024 .f32) (harg5 : arg5.IsWhole) (arg6 : Memref sig .tc .vmem S1024x1024 .f32) (harg6 : arg6.IsWhole)
  (arg7 : Memref sig .tc .vmem S2048x1024 .bf16) (harg7 : arg7.IsWhole)
  (x0 x1 : Vec Ideal S1024x1024 .bf16) (x2 : Vec Ideal S1024x1024 .f32) (x3 : Vec Ideal S2048x1024 .f32) (x4 : Vec Ideal S1x1024 .f32) (xs : Vec Ideal S2048x1024 .bf16)
  (w0 w1 : Vec Ideal S1024x1024 .bf16)

theorem tile_apply {e : EltTy} (arg : Memref sig .tc .vmem S1024x1024 e) (harg : arg.IsWhole) (x : Vec Ideal S1024x1024 e) (n : Fin 4) (r : Fin 256) (k : Fin 1024) :
    tile arg harg x n (ix2 r k) = x (ix2 ⟨256 * n + r, by omega⟩ k) := by
  unfold tile
  rw [Memref.IsWhole.readAt_unread]
  refine congrArg x (funext fun a => ?_)
  fin_cases a <;> refine Fin.ext ?_
  · show 256 * n.val + 1 * r.val = _; rw [one_mul]; rfl
  · show 0 + 1 * k.val = _; rw [one_mul, zero_add]; rfl

theorem scaleRow_apply (k : Fin 1024) : scaleRow arg5 harg5 x4 (ix2 0 k) = x4 (ix2 0 k) := by
  unfold scaleRow
  rw [Memref.IsWhole.readAt_unread]
  refine congrArg x4 (funext fun a => ?_)
  fin_cases a <;> refine Fin.ext ?_
  · rfl
  · show 0 + 1 * k.val = _; rw [one_mul, zero_add]; rfl

/-- What tile `n`'s store writes. -/
theorem pieceOf_apply (w : ℕ → ℕ → EReal) (h0 : ∀ j k : Fin 1024, w0 (ix2 j k) = w j k) (h1 : ∀ j k : Fin 1024, w1 (ix2 j k) = w (1024 + j) k)
    (n : Fin 4) (r : Fin 256) (e : Fin 1024) :
    (pieceOf (F := Ideal) arg1 harg1 arg2 harg2 arg3 harg3 arg5 harg5 x0 x1 x2 x4 w0 w1 n).2 (ix2 r e)
      = rmsE (hidE (at2 x2 (256 * n + r)) (at2 x0 (256 * n + r)) (at2 x1 (256 * n + r)) w) (at2 x4 0) e := by
  show k0_pay3 (F := Ideal) _ _ w0 _ w1 _ (ix2 r e) = _
  rw [pay3_apply _ _ _ w0 w1 _ w h0 h1]
  refine rmsE_congr e.isLt (fun k hk => hidE_congr hk ?_ ?_ ?_ fun _ _ _ _ => rfl) ?_
  · exact fun k hk => ((at2_ix _ r ⟨k, hk⟩).symm.trans (tile_apply _ _ _ n r ⟨k, hk⟩)).trans (at2_ix x2 _ _)
  · exact fun k hk => ((at2_ix _ r ⟨k, hk⟩).symm.trans (tile_apply _ _ _ n r ⟨k, hk⟩)).trans (at2_ix x0 _ _)
  · exact fun k hk => ((at2_ix _ r ⟨k, hk⟩).symm.trans (tile_apply _ _ _ n r ⟨k, hk⟩)).trans (at2_ix x1 _ _)
  · exact fun k hk => ((at2_ix _ (0 : Fin 1) ⟨k, hk⟩).symm.trans (scaleRow_apply _ _ _ ⟨k, hk⟩)).trans (at2_ix x4 (0 : Fin 1) _)

/-- What the tiles leave in the block: each row's norm. -/
theorem tiles_apply (w : ℕ → ℕ → EReal) (h0 : ∀ j k : Fin 1024, w0 (ix2 j k) = w j k) (h1 : ∀ j k : Fin 1024, w1 (ix2 j k) = w (1024 + j) k)
    (p k : Fin 1024) :
    VO0_5.read (Elt Ideal) (VO0_5.writes (Elt Ideal) VO0_5.junk (List.ofFn fun k : Fin 4 =>
        pieceOf (F := Ideal) arg1 harg1 arg2 harg2 arg3 harg3 arg5 harg5 x0 x1 x2 x4 w0 w1 ⟨3 - k.val, by omega⟩)) (ix2 p k)
      = rmsE (hidE (at2 x2 p) (at2 x0 p) (at2 x1 p) w) (at2 x4 0) k := by
  refine View.read_writes_apply_of_pieces (Val := Elt Ideal) VO0_5 _
    (fun y : S1024x1024.Idx => (show Elt Ideal .f32 from rmsE (hidE (at2 x2 (y 0).val) (at2 x0 (y 0).val) (at2 x1 (y 0).val) w) (at2 x4 0) (y 1).val))
    _ (fun q hq x => ?_) (ix2 p k) ?_
  · obtain ⟨j, rfl⟩ := List.mem_ofFn.mp hq
    obtain ⟨r, e, rfl⟩ : ∃ (r : Fin 256) (e : Fin 1024), x = ix2 r e := ⟨x 0, x 1, by funext a; fin_cases a <;> rfl⟩
    have hj := j.isLt
    refine (pieceOf_apply arg1 harg1 arg2 harg2 arg3 harg3 arg5 harg5 x0 x1 x2 x4 w0 w1 w h0 h1 ⟨3 - j.val, by omega⟩ r e).trans ?_
    show _ = rmsE (hidE (at2 x2 (256 * (3 - j.val) + 1 * r.val)) (at2 x0 (256 * (3 - j.val) + 1 * r.val)) (at2 x1 (256 * (3 - j.val) + 1 * r.val)) w) (at2 x4 0) (0 + 1 * e.val)
    rw [one_mul, zero_add, one_mul]
  · have hp := p.isLt
    have hk := k.isLt
    refine ⟨_, List.mem_ofFn.mpr ⟨⟨3 - p.val / 256, by omega⟩, rfl⟩, ?_⟩
    refine (Rect.mem_set_unit (inb := inbRow _)).mpr fun a => ?_
    fin_cases a
    · show 256 * (3 - (3 - p.val / 256)) ≤ p.val ∧ p.val < 256 * (3 - (3 - p.val / 256)) + 256
      omega
    · show 0 ≤ k.val ∧ k.val < 0 + 1024
      omega

/-- The weights the first point stores are the staged ones. -/
theorem wPay_apply (j : Fin 2048) (k : Fin 1024) : wPay (F := Ideal) arg4 harg4 x3 (ix2 j k) = x3 (ix2 j k) := by
  unfold wPay
  rw [pay2_apply]
  rw [Memref.IsWhole.readAt_unread]
  refine congrArg x3 (funext fun a => ?_)
  fin_cases a <;> refine Fin.ext ?_
  · show 0 + 1 * j.val = _; rw [one_mul, zero_add]; rfl
  · show 0 + 1 * k.val = _; rw [one_mul, zero_add]; rfl

/-- The scratch the first point leaves. -/
theorem scratch_apply (v : View sig .tc .vmem S2048x1024 .bf16) (j : Fin 2048) (k : Fin 1024) :
    v.read (Elt Ideal) (v.writes (Elt Ideal) v.junk [wPiece (F := Ideal) arg4 harg4 x3]) (ix2 j k) = x3 (ix2 j k) := by
  unfold wPiece
  rw [View.read_writes_full]
  exact wPay_apply arg4 harg4 x3 j k

theorem low_idx (j k : Fin 1024) : (Rect.unit (s := S2048x1024) ![0, 0] S1024x1024.size inb_S2048x1024_S1024x1024_0_0).toLoadRect.idx (ix2 j k) = ix2 ⟨j, by omega⟩ k := by
  funext a
  fin_cases a <;> refine Fin.ext ?_
  · show 0 + 1 * j.val = _; rw [one_mul, zero_add]; rfl
  · show 0 + 1 * k.val = _; rw [one_mul, zero_add]; rfl

theorem high_idx (j k : Fin 1024) : (Rect.unit (s := S2048x1024) ![1024, 0] S1024x1024.size inb_S2048x1024_S1024x1024_1024_0).toLoadRect.idx (ix2 j k) = ix2 ⟨1024 + j, by omega⟩ k := by
  funext a
  fin_cases a <;> refine Fin.ext ?_
  · show 1024 + 1 * j.val = _; rw [one_mul]; rfl
  · show 0 + 1 * k.val = _; rw [one_mul, zero_add]; rfl

/-- The first point's block. -/
theorem out_A (c : Dev nD) (i : grid0.Coords) (hc0 : cond0_0 i) (p k : Fin 1024) :
    out0_A_5 (F := Ideal) c i arg1 harg1 arg2 harg2 arg3 harg3 arg4 harg4 arg5 harg5 arg6 harg6 arg7 harg7 hc0 x0 x1 x2 x3 x4 (ix2 p k)
      = rmsE (hidE (at2 x2 p) (at2 x0 p) (at2 x1 p) (at2 x3)) (at2 x4 0) k := by
  unfold out0_A_5
  rw [pieces_A]
  refine tiles_apply arg1 harg1 arg2 harg2 arg3 harg3 arg5 harg5 x0 x1 x2 x4 _ _ (at2 x3) (fun j k => ?_) (fun j k => ?_) p k
  · unfold View.readCov
    rw [View.readAt_apply, low_idx, scratch_apply, at2_ix x3]
  · unfold View.readCov
    rw [View.readAt_apply, high_idx, scratch_apply, at2_ix x3]

/-- The first point's scratch. -/
theorem sout_A (c : Dev nD) (i : grid0.Coords) (hc0 : cond0_0 i) (j : Fin 2048) (k : Fin 1024) :
    sout0_A_0 (F := Ideal) c i arg1 harg1 arg2 harg2 arg3 harg3 arg4 harg4 arg5 harg5 arg6 harg6 arg7 harg7 hc0 x0 x1 x2 x3 x4 (ix2 j k) = x3 (ix2 j k) := by
  unfold sout0_A_0
  rw [scratch_A, scratch_apply]

/-- A later point's block. -/
theorem out_B (c : Dev nD) (i : grid0.Coords) (hc0 : ¬cond0_0 i) (p k : Fin 1024) :
    out0_B_5 (F := Ideal) c i arg1 harg1 arg2 harg2 arg3 harg3 arg4 harg4 arg5 harg5 arg6 harg6 arg7 harg7 hc0 x0 x1 x2 x3 x4 xs (ix2 p k)
      = rmsE (hidE (at2 x2 p) (at2 x0 p) (at2 x1 p) (at2 xs)) (at2 x4 0) k := by
  unfold out0_B_5
  rw [pieces_B]
  refine tiles_apply arg1 harg1 arg2 harg2 arg3 harg3 arg5 harg5 x0 x1 x2 x4 _ _ (at2 xs) (fun j k => ?_) (fun j k => ?_) p k
  · rw [View.readAt_apply, low_idx, harg7.read_unread, at2_ix xs]
  · rw [View.readAt_apply, high_idx, harg7.read_unread, at2_ix xs]

end Point

/-! ## The result array -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

theorem flat_apply (X : S8x2048x1024.Idx → EReal) (h : S8x2048x1024.ShapeCasts S16384x1024) (r : Fin 16384) (k : Fin 1024) :
    shapeCast S16384x1024 X h (ix2 r k) = at3 X (r / 2048) (r % 2048) k := by
  rw [at3, dif_pos ⟨by omega, by omega, k.isLt⟩]
  pointwise

theorem wflat_apply (X : S1x2048x1024.Idx → EReal) (h : S1x2048x1024.ShapeCasts S2048x1024) (j : Fin 2048) (k : Fin 1024) :
    shapeCast S2048x1024 X h (ix2 j k) = at3 X 0 j k := by
  refine Eq.trans ?_ (at3_ix X (0 : Fin 1) j k)
  pointwise

theorem gflat_apply (X : S1024.Idx → EReal) (h : S1024.ShapeCasts S1x1024) (k : Fin 1024) : shapeCast S1x1024 X h (ix2 0 k) = at1 X k := by
  refine Eq.trans ?_ (at1_ix X k)
  pointwise

theorem entry_yr (r : Fin 16384) (k : Fin 1024) : V m c main_v0 (ix2 r k) = at3 (m ((c : Thread nD τ).loc main_arg0)) (r / 2048) (r % 2048) k := by
  have e : V m c main_v0 = shapeCast S16384x1024 (m ((c : Thread nD τ).loc main_arg0)) shapeCasts_S8x2048x1024_S16384x1024 := by
    simp only [V, hostOps0]
    after_results_entrywise []
  rw [e]
  exact flat_apply _ _ r k

theorem entry_yf (r : Fin 16384) (k : Fin 1024) : V m c main_v1 (ix2 r k) = at3 (m ((c : Thread nD τ).loc main_arg1)) (r / 2048) (r % 2048) k := by
  have e : V m c main_v1 = shapeCast S16384x1024 (m ((c : Thread nD τ).loc main_arg1)) shapeCasts_S8x2048x1024_S16384x1024 := by
    simp only [V, hostOps0]
    after_results_entrywise []
  rw [e]
  exact flat_apply _ _ r k

theorem entry_x (r : Fin 16384) (k : Fin 1024) : V m c main_v2 (ix2 r k) = at3 (m ((c : Thread nD τ).loc main_arg2)) (r / 2048) (r % 2048) k := by
  have e : V m c main_v2 = shapeCast S16384x1024 (m ((c : Thread nD τ).loc main_arg2)) shapeCasts_S8x2048x1024_S16384x1024 := by
    simp only [V, hostOps0]
    after_results_entrywise []
  rw [e]
  exact flat_apply _ _ r k

theorem entry_w (j : Fin 2048) (k : Fin 1024) : V m c main_v3 (ix2 j k) = at3 (m ((c : Thread nD τ).loc main_arg3)) 0 j k := by
  have e : V m c main_v3 = shapeCast S2048x1024 (m ((c : Thread nD τ).loc main_arg3)) shapeCasts_S1x2048x1024_S2048x1024 := by
    simp only [V, hostOps0]
    after_results_entrywise []
  rw [e]
  exact wflat_apply _ _ j k

theorem entry_g (k : Fin 1024) : V m c main_v4 (ix2 0 k) = at1 (m ((c : Thread nD τ).loc main_arg4)) k := by
  have e : V m c main_v4 = shapeCast S1x1024 (m ((c : Thread nD τ).loc main_arg4)) shapeCasts_S1024_S1x1024 := by
    simp only [V, hostOps0]
    after_results_entrywise []
  rw [e]
  exact gflat_apply _ _ k

theorem t_lt (t : Fin cfg0.N) : t.val < 16 := lt_of_lt_of_eq t.isLt N_0

theorem blk0 (t : Fin cfg0.N) (p k : Fin 1024) : iblk m c 0 t (ix2 p k) = V m c main_v0 (ix2 ⟨1024 * t.val + p, by have := t_lt t; omega⟩ k) := by
  blk_point [iblk, idx t]

theorem blk1 (t : Fin cfg0.N) (p k : Fin 1024) : iblk m c 1 t (ix2 p k) = V m c main_v1 (ix2 ⟨1024 * t.val + p, by have := t_lt t; omega⟩ k) := by
  blk_point [iblk, idx t]

theorem blk2 (t : Fin cfg0.N) (p k : Fin 1024) : iblk m c 2 t (ix2 p k) = V m c main_v2 (ix2 ⟨1024 * t.val + p, by have := t_lt t; omega⟩ k) := by
  blk_point [iblk, idx t]

theorem blk3 (t : Fin cfg0.N) (j : Fin 2048) (k : Fin 1024) : iblk m c 3 t (ix2 j k) = V m c main_v3 (ix2 j k) := by
  blk_point [iblk, idx t]

theorem blk4 (t : Fin cfg0.N) (k : Fin 1024) : iblk m c 4 t (ix2 0 k) = V m c main_v4 (ix2 0 k) := by
  blk_point [iblk, idx t]

/-- The weights the scratch holds after every point. -/
theorem scratch_eq (n : ℕ) (hn : n < cfg0.N) (j : Fin 2048) (k : Fin 1024) :
    (outsAt0 m c n hn).2 (ix2 j k) = at3 (m ((c : Thread nD τ).loc main_arg3)) 0 j k := by
  induction n with
  | zero =>
    have e := congrArg Prod.snd (outsAt0_A m c ⟨0, hn⟩ (Nat.zero_mod _))
    dsimp only at e
    rw [e, sout_A, blk3, entry_w]
  | succ n ih =>
    have h := lt_of_lt_of_eq hn (show cfg0.N = 16 from N_0)
    have e := congrArg Prod.snd (outsAt0_B m c ⟨n + 1, hn⟩ (by show ¬(n + 1) % 16 = 0; omega))
    dsimp only at e
    rw [e]
    exact ih (Nat.lt_of_succ_lt hn)

/-- The result array: the rows of all sequences one after another. -/
def final : FVec Ideal S16384x1024 .f32 := fun y =>
  rmsE (hidE (at3 (m ((c : Thread nD τ).loc main_arg2)) ((y 0).val / 2048) ((y 0).val % 2048)) (at3 (m ((c : Thread nD τ).loc main_arg0)) ((y 0).val / 2048) ((y 0).val % 2048))
    (at3 (m ((c : Thread nD τ).loc main_arg1)) ((y 0).val / 2048) ((y 0).val % 2048)) (at3 (m ((c : Thread nD τ).loc main_arg3)) 0)) (at1 (m ((c : Thread nD τ).loc main_arg4))) (y 1).val

theorem point (t : Fin cfg0.N) (p k : Fin 1024) :
    (outsAt0 m c t.val t.isLt).1 (ix2 p k) = final m c (ix2 ⟨1024 * t.val + p, by have := t_lt t; omega⟩ k) := by
  have ht := t_lt t
  have h0 : ∀ j, j < 1024 → at2 (iblk m c 0 t) p j = at3 (m ((c : Thread nD τ).loc main_arg0)) ((1024 * t.val + p) / 2048) ((1024 * t.val + p) % 2048) j := fun j hj =>
    ((at2_ix _ p ⟨j, hj⟩).symm.trans (blk0 m c t p ⟨j, hj⟩)).trans (entry_yr m c _ ⟨j, hj⟩)
  have h1 : ∀ j, j < 1024 → at2 (iblk m c 1 t) p j = at3 (m ((c : Thread nD τ).loc main_arg1)) ((1024 * t.val + p) / 2048) ((1024 * t.val + p) % 2048) j := fun j hj =>
    ((at2_ix _ p ⟨j, hj⟩).symm.trans (blk1 m c t p ⟨j, hj⟩)).trans (entry_yf m c _ ⟨j, hj⟩)
  have h2 : ∀ j, j < 1024 → at2 (iblk m c 2 t) p j = at3 (m ((c : Thread nD τ).loc main_arg2)) ((1024 * t.val + p) / 2048) ((1024 * t.val + p) % 2048) j := fun j hj =>
    ((at2_ix _ p ⟨j, hj⟩).symm.trans (blk2 m c t p ⟨j, hj⟩)).trans (entry_x m c _ ⟨j, hj⟩)
  have h4 : ∀ j, j < 1024 → at2 (iblk m c 4 t) 0 j = at1 (m ((c : Thread nD τ).loc main_arg4)) j := fun j hj =>
    ((at2_ix _ (0 : Fin 1) ⟨j, hj⟩).symm.trans (blk4 m c t ⟨j, hj⟩)).trans (entry_g m c ⟨j, hj⟩)
  unfold final
  by_cases hz : t.val % 16 = 0
  · have e := congrArg Prod.fst (outsAt0_A m c t hz)
    dsimp only at e
    rw [e, out_A]
    refine rmsE_congr k.isLt (fun j hj => hidE_congr hj h2 h0 h1 ?_) h4
    exact fun j k hj hk => ((at2_ix _ ⟨j, hj⟩ ⟨k, hk⟩).symm.trans (blk3 m c t ⟨j, hj⟩ ⟨k, hk⟩)).trans (entry_w m c ⟨j, hj⟩ ⟨k, hk⟩)
  · have e := congrArg Prod.fst (outsAt0_B m c t hz)
    dsimp only at e
    rw [e, out_B]
    refine rmsE_congr k.isLt (fun j hj => hidE_congr hj h2 h0 h1 ?_) h4
    exact fun j k hj hk => (at2_ix _ ⟨j, hj⟩ ⟨k, hk⟩).symm.trans (scratch_eq m c _ _ ⟨j, hj⟩ ⟨k, hk⟩)

theorem arr_eq : (dats m 0 c).arrAt 5 cfg0.N = final m c := by
  refine (dats m 0 c).arrAt_eq_of_covers 5 _ (by decide +kernel) fun t _ y => ?_
  blk_simp
  rw [after0_5]
  obtain ⟨p, k, rfl⟩ : ∃ (p k : Fin 1024), y = ix2 p k := ⟨y 0, y 1, by funext a; fin_cases a <;> rfl⟩
  refine (point m c t p k).trans ?_
  unfold final
  blk_simp [idx t]
  rw [Nat.mul_comm t.val 1024]

end Ker

end Cert.Outp

end
-- ==== Proof.Out.lean ====
module

public import proofs.«01_k».proof.Proof.OutKer
public import proofs.«01_k».proof.Proof.Gen.Reference2Ideal.Run
public import Idealize.ShloMosaic.Lib.IdealHost
public import Idealize.ShloMosaic.Lib.Quiescent
public import proofs.«01_k».proof.Defs

/-! # The output projection's claims

The reference multiplies the two mixers' outputs, side by side, by the whole weights; the sum over 2048 columns is the sum over
the first half plus the sum over the second. -/

@[expose] public section

set_option maxRecDepth 16384

noncomputable section

namespace Cert.Outp

open Idealize.ShloMosaic Idealize.ShloMosaic.TcCoe Idealize.SL.Sem Cert.Ret

namespace Ref

open Cert.Reference2Ideal Cert.Reference2Ideal.Gen

/-- The residual stream, as the reference computes it. -/
def hidV (Yr Yf : FVec Ideal S8x2048x1024 .bf16) (X : FVec Ideal S8x2048x1024 .f32) (W : FVec Ideal S1x2048x1024 .f32) : FVec Ideal S8x2048x1024 .f32 :=
  addf X (Host.dotGeneral dot_S8x2048x2048_S2048x1024_S8x2048x1024_2_0_01_1_n_n none (extf .f32 (concatenate S8x2048x2048 2 [⟨S8x2048x1024, Yr⟩, ⟨S8x2048x1024, Yf⟩] concatenates_S8x2048x1024_S8x2048x1024_S8x2048x2048_d2) bitsLt_bf16_f32) (shapeCast _ W shapeCasts_S1x2048x1024_S2048x1024))

/-- The result, as the reference computes it from the residual stream. -/
def outV (H : FVec Ideal S8x2048x1024 .f32) (G : FVec Ideal S1024 .f32) : FVec Ideal S16384x1024 .f32 :=
  shapeCast _ (mulf (mulf H (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf H H) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) shapeCasts_S8x2048x1024_S16384x1024

theorem hidV_apply (Yr Yf : FVec Ideal S8x2048x1024 .bf16) (X : FVec Ideal S8x2048x1024 .f32) (W : FVec Ideal S1x2048x1024 .f32) (b : Fin 8) (p : Fin 2048) (k : Fin 1024) :
    hidV Yr Yf X W (ix3 b p k) = hidE (at3 X b p) (at3 Yr b p) (at3 Yf b p) (at3 W 0) k := by
  unfold hidV hidE
  pointwise
  simp only [at3_ix, add_assoc]
  rfl

theorem outV_apply (H : FVec Ideal S8x2048x1024 .f32) (G : FVec Ideal S1024 .f32) (r : Fin 16384) (k : Fin 1024) :
    outV H G (ix2 r k) = rmsE (at3 H (r / 2048) (r % 2048)) (at1 G) k := by
  unfold outV rmsE
  pointwise
  simp only [at3_ix, at1_ix]

/-- The reference's frame: it declares no semaphore, so the counters are zero. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl _⟩) (Value.run m g)

end Ref

/-- The two results agree. -/
theorem result_eq (m : (ℓ : Loc Cert.Kernel2Ideal.nD Cert.Kernel2Ideal.τ Cert.Kernel2Ideal.sig) → Buf (Elt Ideal) ℓ) (c : Dev Cert.Kernel2Ideal.nD) :
    Ref.outV (Ref.hidV (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)))
      (m ((c.tc : Thread Cert.Kernel2Ideal.nD Cert.Kernel2Ideal.τ).loc Cert.Kernel2Ideal.main_arg4)) = Ker.final m c := by
  funext y
  obtain ⟨r, k, rfl⟩ : ∃ (r : Fin 16384) (k : Fin 1024), y = ix2 r k := ⟨y 0, y 1, by funext a; fin_cases a <;> rfl⟩
  rw [Ref.outV_apply]
  refine rmsE_congr k.isLt (fun j hj => ?_) fun _ _ => rfl
  exact (at3_ix _ (⟨r.val / 2048, by omega⟩ : Fin 8) (⟨r.val % 2048, by omega⟩ : Fin 2048) (⟨j, hj⟩ : Fin 1024)).symm.trans (Ref.hidV_apply _ _ _ _ _ _ _)

/-- The value claim. -/
theorem algebraic : Cert.algebraic_Kernel2Ideal_Reference2Ideal := by
  intro m g m' g' _ hag
  refine ⟨fun c => Ker.final m c, (θ_run Cert.Kernel2Ideal.defs _ _).mono (fun r h c => ?_) (Cert.Kernel2Ideal.Value.run_blocks m g),
    (θ_run Cert.Reference2Ideal.defs _ _).mono (fun r h c => ?_) (Cert.Reference2Ideal.Value.run m' g')⟩
  · exact ⟨(h c).1.trans (Ker.arr_eq m c), (h c).2⟩
  · refine ⟨(h c).1.trans ?_, (h c).2⟩
    obtain ⟨h0, h1, h2, h3, h4⟩ := hag c
    rw [h0, h1, h2, h3, h4]
    exact result_eq m c

end Cert.Outp

end
-- ==== Proof.InRuns.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! # The input projection's launch: what its runs are stated over

@main up to the call, the blocks its windows read, the two conditions of its body over the grid of 8 blocks of positions by 4
blocks of columns, and when the block of log-forgets has been stored. -/

@[expose] public section

set_option maxRecDepth 16384

noncomputable section

namespace Cert.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the call is entered: after @main's host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the call finds the four as launched. -/
theorem V_args (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  refine ⟨?_, ?_, ?_, ?_⟩ <;>
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The argument arrays end as they were launched, from a run that leaves every buffer no window stages. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_args m c).1,
      ((h c).2 main_arg1 (Pipeline.mem_restRefs_of main_arg1 (by decide) (by decide))).trans (V_args m c).2.1,
      ((h c).2 main_arg2 (Pipeline.mem_restRefs_of main_arg2 (by decide) (by decide))).trans (V_args m c).2.2.1,
      ((h c).2 main_arg3 (Pipeline.mem_restRefs_of main_arg3 (by decide) (by decide))).trans (V_args m c).2.2.2⟩) h

/-- The body's first condition: the first block of columns. -/
abbrev cond0_0 (i : grid0.Coords) : Prop := k0_cond1 i = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- Its second: any other block of columns. -/
abbrev cond0_1 (i : grid0.Coords) : Prop := k0_cond2 i = 1#1
theorem hcond0_1 : ∀ t : Fin cfg0.N, cond0_1 (grid0.coords t) ↔ ¬t.val % 4 = 0 :=
  (by decide +kernel : ∀ t : Fin grid0.N, cond0_1 (grid0.coords t) ↔ ¬t.val % 4 = 0)

end Cert.Inp

end
-- ==== Proof.InRunA.lean ====
module

public import proofs.«01_k».proof.Proof.InRuns

/-! # The input projection's run at the first block of columns

The body norms the block of positions into its scratch, projects it on the first columns, rotates the retention's queries and
keys, and stores the log-forgets' sums. -/

@[expose] public section

set_option maxRecDepth 16384

noncomputable section

namespace Cert.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2328000 in
/-- The pieces the body stores, at the first block of columns, into the projection's block, the log-forgets', the zeros', the normed
    rows' scratch and the scratch of log-forgets, with the triple of the body that leaves them. -/
noncomputable def runA (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S8x1 .f32) (harg5 : arg5.IsWhole) (arg6 : Memref sig .tc .vmem S16x1024 .f32) (harg6 : arg6.IsWhole) (arg7 : Memref sig .tc .vmem S1x16 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1792 .bf16) (harg10 : arg10.IsWhole) (arg11 : Memref sig .tc .vmem S1x8x2x2048 .f32) (harg11 : arg11.IsWhole) (arg12 : Memref sig .tc .vmem S8x1024 .bf16) (harg12 : arg12.IsWhole) (arg13 : Memref sig .tc .vmem S2048x1024 .bf16) (harg13 : arg13.IsWhole) (arg14 : Memref sig .tc .vmem S16x2048 .f32) (harg14 : arg14.IsWhole) (hc0 : cond0_0 i) (hc1 : ¬cond0_1 i)
    (x0 : Vec F S2048x1024 .f32) (x1 : Vec F S1x1024 .f32) (x2 : Vec F S1792x1024 .bf16) (x3 : Vec F S8x1 .f32) (x4 : Vec F S16x1024 .f32) (x5 : Vec F S1x16 .f32) (x6 : Vec F S2048x128 .f32) (x7 : Vec F S2048x128 .f32) :
    Σ' (L8 : List (View.Piece (Elt F) S2048x1792 .bf16)), Σ' (L9 : List (View.Piece (Elt F) S1x8x2x2048 .f32)), Σ' (L10 : List (View.Piece (Elt F) S8x1024 .bf16)), Σ' (LS0 : List (View.Piece (Elt F) S2048x1024 .bf16)), { LT1 : List (View.Piece (Elt F) S16x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_inproj_eq_skeleton]; unfold cc0_inproj_skel
    simp only [k0_part49_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; iexact HS1

end Cert.Inp

end
-- ==== Proof.InRunB.lean ====
module

public import proofs.«01_k».proof.Proof.InRunA

/-! # The input projection's run at the other blocks of columns

The body projects the normed positions kept in its scratch; the block of log-forgets stays as it was. -/

@[expose] public section

set_option maxRecDepth 16384

noncomputable section

namespace Cert.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The pieces it stores at any other block of columns, from the normed rows `xs0` that the scratch holds, with the triple of the
    body that leaves them; the log-forgets' block stays at `xo9`. -/
noncomputable def runB (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S8x1 .f32) (harg5 : arg5.IsWhole) (arg6 : Memref sig .tc .vmem S16x1024 .f32) (harg6 : arg6.IsWhole) (arg7 : Memref sig .tc .vmem S1x16 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1792 .bf16) (harg10 : arg10.IsWhole) (arg11 : Memref sig .tc .vmem S1x8x2x2048 .f32) (harg11 : arg11.IsWhole) (arg12 : Memref sig .tc .vmem S8x1024 .bf16) (harg12 : arg12.IsWhole) (arg13 : Memref sig .tc .vmem S2048x1024 .bf16) (harg13 : arg13.IsWhole) (arg14 : Memref sig .tc .vmem S16x2048 .f32) (harg14 : arg14.IsWhole) (hc0 : ¬cond0_0 i) (hc1 : cond0_1 i)
    (x0 : Vec F S2048x1024 .f32) (x1 : Vec F S1x1024 .f32) (x2 : Vec F S1792x1024 .bf16) (x3 : Vec F S8x1 .f32) (x4 : Vec F S16x1024 .f32) (x5 : Vec F S1x16 .f32) (x6 : Vec F S2048x128 .f32) (x7 : Vec F S2048x128 .f32) (xo9 : Vec F S1x8x2x2048 .f32) (xs0 : Vec F S2048x1024 .bf16) :
    Σ' (L8 : List (View.Piece (Elt F) S2048x1792 .bf16)), Σ' (L9 : List (View.Piece (Elt F) S1x8x2x2048 .f32)), Σ' (L10 : List (View.Piece (Elt F) S8x1024 .bf16)), Σ' (LS0 : List (View.Piece (Elt F) S2048x1024 .bf16)), { LT1 : List (View.Piece (Elt F) S16x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ (∃ d, owns (c : Thread nD τ) arg12 fullShare d) ∗ owns (c : Thread nD τ) arg13 fullShare xs0 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xo9 ∗ (∃ f, arg12.view.loc (c : Thread nD τ) ↦[arg12.view.set]{fullShare} arg12.view.writes (Elt F) f L10) ∗ owns (c : Thread nD τ) arg13 fullShare xs0 ∗ (∃ d, owns (c : Thread nD τ) arg14 fullShare d)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, [], [], fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    iexists _, _; isplitr; swap; · iexact HS1
    ipureintro; rfl

end Cert.Inp

end
-- ==== Proof.InFrame.lean ====
module

public import proofs.«01_k».proof.Proof.InRunB
public import Idealize.ShloMosaic.Lib.Claim

/-! # The input projection's launch

Eight blocks of positions by four blocks of columns. The first block of columns fills a scratch with the normed rows and stores the
log-forgets; the three others read the scratch, and leave the log-forgets' block alone until it is written back. -/

@[expose] public section

set_option maxRecDepth 16384

noncomputable section

namespace Cert.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the buffers hold -/

/-- The first point of block `q` of positions, and the block of positions of a point. -/
abbrev base (q : Fin 8) : Fin cfg0.N := ⟨4 * q.val, by rw [show cfg0.N = 32 from N_0]; omega⟩
abbrev rowq (t : Fin cfg0.N) : Fin 8 := ⟨t.val / 4, by have := lt_of_lt_of_eq t.isLt (show cfg0.N = 32 from N_0); omega⟩
theorem base_mod (q : Fin 8) : (base q).val % 4 = 0 := by dsimp only [base]; omega
theorem rowq_base (q : Fin 8) : rowq (base q) = q := Fin.ext (by dsimp only [rowq, base]; omega)
theorem base_rowq (t : Fin cfg0.N) (h : t.val % 4 = 0) : base (rowq t) = t := Fin.ext (by dsimp only [rowq, base]; omega)

/-- What the body stores at a point of the first block of columns. -/
def storesA (c : Dev nD) (t : Fin cfg0.N) (h : t.val % 4 = 0) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)
    ((hcond0_0 t).mpr h) (fun h1 => (hcond0_1 t).mp h1 h) (iblk m c 0 t) (iblk m c 1 t) (iblk m c 2 t) (iblk m c 3 t) (iblk m c 4 t) (iblk m c 5 t) (iblk m c 6 t) (iblk m c 7 t)

/-- The normed rows that the points of block `q` of positions share, and the block's log-forgets. -/
def uAt (c : Dev nD) (q : Fin 8) : Vec F S2048x1024 .bf16 :=
  (Memref.whole cc0_scratch0).view.read (Elt F) ((Memref.whole cc0_scratch0).view.writes (Elt F) (Memref.whole cc0_scratch0).view.junk (storesA m c (base q) (base_mod q)).2.2.2.1)
def cAt (c : Dev nD) (q : Fin 8) : Vec F S1x8x2x2048 .f32 :=
  (Memref.whole cc0_stg9_0).view.read (Elt F) ((Memref.whole cc0_stg9_0).view.writes (Elt F) (Memref.whole cc0_stg9_0).view.junk (storesA m c (base q) (base_mod q)).2.1)

/-- What it stores at any other point. -/
def storesB (c : Dev nD) (t : Fin cfg0.N) (h : ¬t.val % 4 = 0) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)
    (fun h0 => h ((hcond0_0 t).mp h0)) ((hcond0_1 t).mpr h) (iblk m c 0 t) (iblk m c 1 t) (iblk m c 2 t) (iblk m c 3 t) (iblk m c 4 t) (iblk m c 5 t) (iblk m c 6 t) (iblk m c 7 t) (cAt m c (rowq t)) (uAt m c (rowq t))

/-- The projection's block at a point, and the zeros. -/
def zAt (c : Dev nD) (t : Fin cfg0.N) : Vec F S2048x1792 .bf16 :=
  (Memref.whole cc0_stg8_0).view.read (Elt F) ((Memref.whole cc0_stg8_0).view.writes (Elt F) (Memref.whole cc0_stg8_0).view.junk
    (if h : t.val % 4 = 0 then (storesA m c t h).1 else (storesB m c t h).1))
def oAt (c : Dev nD) (t : Fin cfg0.N) : Vec F S8x1024 .bf16 :=
  (Memref.whole cc0_stg10_0).view.read (Elt F) ((Memref.whole cc0_stg10_0).view.writes (Elt F) (Memref.whole cc0_stg10_0).view.junk
    (if h : t.val % 4 = 0 then (storesA m c t h).2.2.1 else (storesB m c t h).2.2.1))

/-! The stores cover the blocks. -/

theorem coverA8 (c : Dev nD) (t : Fin cfg0.N) (h : t.val % 4 = 0) (y : S2048x1792.Idx) : ∃ pc ∈ (storesA m c t h).1, y ∈ pc.1.set :=
  View.cover_of_tiledL (storesA m c t h).1 S512x1792.size (by sl_kernel_rfl) y
theorem coverA9 (c : Dev nD) (t : Fin cfg0.N) (h : t.val % 4 = 0) (y : S1x8x2x2048.Idx) : ∃ pc ∈ (storesA m c t h).2.1, y ∈ pc.1.set :=
  View.cover_of_tiledL (storesA m c t h).2.1 S1x1x2x128.size (by sl_kernel_rfl) y
theorem coverA10 (c : Dev nD) (t : Fin cfg0.N) (h : t.val % 4 = 0) (y : S8x1024.Idx) : ∃ pc ∈ (storesA m c t h).2.2.1, y ∈ pc.1.set :=
  View.cover_of_tiledL (storesA m c t h).2.2.1 S8x1024.size (by sl_kernel_rfl) y
theorem coverAu (c : Dev nD) (t : Fin cfg0.N) (h : t.val % 4 = 0) (y : S2048x1024.Idx) : ∃ pc ∈ (storesA m c t h).2.2.2.1, y ∈ pc.1.set :=
  View.cover_of_tiledL (storesA m c t h).2.2.2.1 S512x1024.size (by sl_kernel_rfl) y
theorem coverB8 (c : Dev nD) (t : Fin cfg0.N) (h : ¬t.val % 4 = 0) (y : S2048x1792.Idx) : ∃ pc ∈ (storesB m c t h).1, y ∈ pc.1.set :=
  View.cover_of_tiledL (storesB m c t h).1 S512x1792.size (by sl_kernel_rfl) y
theorem coverB10 (c : Dev nD) (t : Fin cfg0.N) (h : ¬t.val % 4 = 0) (y : S8x1024.Idx) : ∃ pc ∈ (storesB m c t h).2.2.1, y ∈ pc.1.set :=
  View.cover_of_tiledL (storesB m c t h).2.2.1 S8x1024.size (by sl_kernel_rfl) y

/-! ## The pipeline's proof data -/

/-- Between points the scratch holds the normed rows of the block of positions of the point before. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) (Memref.whole cc0_scratch0) fullShare (uAt m c (rowq ⟨n, hn⟩)) ∗ (∃ d, owns (c : Thread nD τ) (Memref.whole cc0_scratch1) fullShare d)) ∗ (∃ r, prngReg c r))

theorem PhiA_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- Before any point the scratch holds something. -/
theorem PhiS_any (c : Dev nD) (n : ℕ) (hn : n ≤ cfg0.N) : PhiS m c n hn ⊢ Pipeline.ΦA spec0 c := by
  cases n with
  | zero => exact Entails.refl _
  | succ n =>
    rw [PhiA_eq]; unfold PhiS
    iintro ⟨⟨HS0, HS1⟩, Hg⟩
    isplitl [HS0 HS1]
    · isplitl [HS0]
      · iexists _; iexact HS0
      iexact HS1
    iexact Hg

/-- Before a point that is not a first of its block of positions it holds the block's normed rows. -/
theorem PhiS_pos (c : Dev nD) (t : Fin cfg0.N) (h : ¬t.val % 4 = 0) :
    PhiS m c t.val (Nat.le_of_lt t.isLt) = iprop(iprop(owns (c : Thread nD τ) (Memref.whole cc0_scratch0) fullShare (uAt m c (rowq t)) ∗ (∃ d, owns (c : Thread nD τ) (Memref.whole cc0_scratch1) fullShare d)) ∗ (∃ r, prngReg c r)) := by
  obtain ⟨n, hn⟩ := t
  cases n with
  | zero => exact absurd rfl h
  | succ n =>
    have e : rowq ⟨n, Nat.lt_of_succ_lt hn⟩ = rowq ⟨n + 1, hn⟩ := Fin.ext (by simp only at h ⊢; omega)
    rw [← e]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => zAt m c t
    | ⟨9, _⟩ => cAt m c (rowq t)
    | ⟨10, _⟩ => oAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_8 (c : Dev nD) (t : Fin cfg0.N) : (dats m 0 c).after 8 t = zAt m c t := by dsimp only [dats]
theorem after_9 (c : Dev nD) (t : Fin cfg0.N) : (dats m 0 c).after 9 t = cAt m c (rowq t) := by dsimp only [dats]

/-- Each input's buffer holds its block at every point, fetched there or not. -/
theorem before_in (c : Dev nD) (t : Fin cfg0.N) : (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) := by
  refine ⟨?_, ?_, ?_, ?_, ?_, ?_, ?_, ?_⟩ <;> intro d
  · have e : ∀ t, (dats m 0 c).after 0 t = iblk m c 0 t := fun t => by dsimp only [dats]
    exact ((dats m 0 c).before_in_eq_fetched 0 rfl (fun _ => rfl) (fun _ _ _ => rfl) (fun t => by rw [e]; unfold Dat.blockOf iblk; rw [A_eq]; try rfl) t d).trans
      (by unfold Dat.fetched Dat.blockOf iblk; rw [A_eq]; try rfl)
  · have e : ∀ t, (dats m 0 c).after 1 t = iblk m c 1 t := fun t => by dsimp only [dats]
    exact ((dats m 0 c).before_in_eq_fetched 1 rfl (fun _ => rfl) (fun _ _ _ => rfl) (fun t => by rw [e]; unfold Dat.blockOf iblk; rw [A_eq]; try rfl) t d).trans
      (by unfold Dat.fetched Dat.blockOf iblk; rw [A_eq]; try rfl)
  · have e : ∀ t, (dats m 0 c).after 2 t = iblk m c 2 t := fun t => by dsimp only [dats]
    exact ((dats m 0 c).before_in_eq_fetched 2 rfl (fun _ => rfl) (fun _ _ _ => rfl) (fun t => by rw [e]; unfold Dat.blockOf iblk; rw [A_eq]; try rfl) t d).trans
      (by unfold Dat.fetched Dat.blockOf iblk; rw [A_eq]; try rfl)
  · have e : ∀ t, (dats m 0 c).after 3 t = iblk m c 3 t := fun t => by dsimp only [dats]
    exact ((dats m 0 c).before_in_eq_fetched 3 rfl (fun _ => rfl) (fun _ _ _ => rfl) (fun t => by rw [e]; unfold Dat.blockOf iblk; rw [A_eq]; try rfl) t d).trans
      (by unfold Dat.fetched Dat.blockOf iblk; rw [A_eq]; try rfl)
  · have e : ∀ t, (dats m 0 c).after 4 t = iblk m c 4 t := fun t => by dsimp only [dats]
    exact ((dats m 0 c).before_in_eq_fetched 4 rfl (fun _ => rfl) (fun _ _ _ => rfl) (fun t => by rw [e]; unfold Dat.blockOf iblk; rw [A_eq]; try rfl) t d).trans
      (by unfold Dat.fetched Dat.blockOf iblk; rw [A_eq]; try rfl)
  · have e : ∀ t, (dats m 0 c).after 5 t = iblk m c 5 t := fun t => by dsimp only [dats]
    exact ((dats m 0 c).before_in_eq_fetched 5 rfl (fun _ => rfl) (fun _ _ _ => rfl) (fun t => by rw [e]; unfold Dat.blockOf iblk; rw [A_eq]; try rfl) t d).trans
      (by unfold Dat.fetched Dat.blockOf iblk; rw [A_eq]; try rfl)
  · have e : ∀ t, (dats m 0 c).after 6 t = iblk m c 6 t := fun t => by dsimp only [dats]
    exact ((dats m 0 c).before_in_eq_fetched 6 rfl (fun _ => rfl) (fun _ _ _ => rfl) (fun t => by rw [e]; unfold Dat.blockOf iblk; rw [A_eq]; try rfl) t d).trans
      (by unfold Dat.fetched Dat.blockOf iblk; rw [A_eq]; try rfl)
  · have e : ∀ t, (dats m 0 c).after 7 t = iblk m c 7 t := fun t => by dsimp only [dats]
    exact ((dats m 0 c).before_in_eq_fetched 7 rfl (fun _ => rfl) (fun _ _ _ => rfl) (fun t => by rw [e]; unfold Dat.blockOf iblk; rw [A_eq]; try rfl) t d).trans
      (by unfold Dat.fetched Dat.blockOf iblk; rw [A_eq]; try rfl)

/-- Where the windows are idle: the projection's and the zeros' nowhere, the log-forgets' at all but the first block of columns. -/
theorem idle_out : ∀ t : Fin cfg0.N, cfg0.idle 8 (grid0.coords t) = false ∧ cfg0.idle 10 (grid0.coords t) = false
    ∧ (cfg0.idle 9 (grid0.coords t) = true ↔ ¬t.val % 4 = 0) ∧ (cfg0.fresh 9 t.val = true ↔ t.val % 4 = 0) :=
  (by decide +kernel : ∀ t : Fin grid0.N, cfg0.idle 8 (grid0.coords t) = false ∧ cfg0.idle 10 (grid0.coords t) = false
    ∧ (cfg0.idle 9 (grid0.coords t) = true ↔ ¬t.val % 4 = 0) ∧ (cfg0.fresh 9 t.val = true ↔ t.val % 4 = 0))

/-- The log-forgets' buffer holds the block's log-forgets at every point but the first of a block of positions. -/
theorem before_9 (c : Dev nD) (t : Fin cfg0.N) (h : ¬t.val % 4 = 0) (d) : (dats m 0 c).before 9 t d = cAt m c (rowq t) := by
  have prev : ∀ t : Fin cfg0.N, ¬t.val % 4 = 0 → (dats m 0 c).after 9 ⟨t.val - 1, by omega⟩ = cAt m c (rowq t) := fun t h => by
    rw [after_9, show rowq ⟨t.val - 1, _⟩ = rowq t from Fin.ext (by dsimp only [rowq]; omega)]
  rw [Dat.before_out_traj _ 9 rfl (fun _ _ => rfl) (fun t _ hi _ => by rw [prev t ((idle_out t).2.2.1.mp hi), after_9]) t.val t rfl d,
    if_neg (fun hf => h ((idle_out t).2.2.2.mp hf)), prev t h]

/-- What the body must leave in each buffer. -/
theorem leaves_in (c : Dev nD) (t : Fin cfg0.N) : (dats m 0 c).leavesExact 0 t = owns (c : Thread nD τ) (win0_0.stage (cfg0.slots t 0)) fullShare (iblk m c 0 t)
    ∧ (dats m 0 c).leavesExact 1 t = owns (c : Thread nD τ) (win0_1.stage (cfg0.slots t 1)) fullShare (iblk m c 1 t)
    ∧ (dats m 0 c).leavesExact 2 t = owns (c : Thread nD τ) (win0_2.stage (cfg0.slots t 2)) fullShare (iblk m c 2 t)
    ∧ (dats m 0 c).leavesExact 3 t = owns (c : Thread nD τ) (win0_3.stage (cfg0.slots t 3)) fullShare (iblk m c 3 t)
    ∧ (dats m 0 c).leavesExact 4 t = owns (c : Thread nD τ) (win0_4.stage (cfg0.slots t 4)) fullShare (iblk m c 4 t)
    ∧ (dats m 0 c).leavesExact 5 t = owns (c : Thread nD τ) (win0_5.stage (cfg0.slots t 5)) fullShare (iblk m c 5 t)
    ∧ (dats m 0 c).leavesExact 6 t = owns (c : Thread nD τ) (win0_6.stage (cfg0.slots t 6)) fullShare (iblk m c 6 t)
    ∧ (dats m 0 c).leavesExact 7 t = owns (c : Thread nD τ) (win0_7.stage (cfg0.slots t 7)) fullShare (iblk m c 7 t) := by
  refine ⟨?_, ?_, ?_, ?_, ?_, ?_, ?_, ?_⟩ <;> unfold Dat.leavesExact
  · rw [show cfg0.idle 0 (cfg0.grid.coords t) = false from rfl]; dsimp only [dats]
  · rw [show cfg0.idle 1 (cfg0.grid.coords t) = false from rfl]; dsimp only [dats]
  · rw [show cfg0.idle 2 (cfg0.grid.coords t) = false from rfl]; dsimp only [dats]
  · rw [show cfg0.idle 3 (cfg0.grid.coords t) = false from rfl]; dsimp only [dats]
  · rw [show cfg0.idle 4 (cfg0.grid.coords t) = false from rfl]; dsimp only [dats]
  · rw [show cfg0.idle 5 (cfg0.grid.coords t) = false from rfl]; dsimp only [dats]
  · rw [show cfg0.idle 6 (cfg0.grid.coords t) = false from rfl]; dsimp only [dats]
  · rw [show cfg0.idle 7 (cfg0.grid.coords t) = false from rfl]; dsimp only [dats]

theorem leaves_8 (c : Dev nD) (t : Fin cfg0.N) : (dats m 0 c).leavesExact 8 t = owns (c : Thread nD τ) (win0_8.stage (cfg0.slots t 8)) fullShare (zAt m c t) := by
  unfold Dat.leavesExact; rw [show cfg0.idle 8 (cfg0.grid.coords t) = false from (idle_out t).1, after_8]
theorem leaves_10 (c : Dev nD) (t : Fin cfg0.N) : (dats m 0 c).leavesExact 10 t = owns (c : Thread nD τ) (win0_10.stage (cfg0.slots t 10)) fullShare (oAt m c t) := by
  unfold Dat.leavesExact; rw [show cfg0.idle 10 (cfg0.grid.coords t) = false from (idle_out t).2.1]; dsimp only [dats]
theorem leaves_9 (c : Dev nD) (t : Fin cfg0.N) :
    (owns (c : Thread nD τ) (win0_9.stage (cfg0.slots t 9)) fullShare (cAt m c (rowq t)) : sProp (MT nD τ sig Unit (Elt F) ℕ (UR sig nD τ) ℕ)) ⊢ (dats m 0 c).leavesExact 9 t := by
  unfold Dat.leavesExact
  cases hi : cfg0.idle 9 (cfg0.grid.coords t)
  · rw [after_9]
  · cases hf : (cfg0.win 9).flush t
    · dsimp only
      iintro H
      iexists (cAt m c (rowq t))
      rw [before_9 m c t ((idle_out t).2.2.1.mp hi)]
      iexact H
    · dsimp only; rw [after_9]

/-! ## The body obligation -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = iprop(iprop(owns (c : Thread nD τ) (Memref.whole cc0_scratch0) fullShare (uAt m c (rowq t)) ∗ (∃ d, owns (c : Thread nD τ) (Memref.whole cc0_scratch1) fullShare d)) ∗ (∃ r, prngReg c r)) := rfl

set_option maxHeartbeats 3200000 in
/-- The body at a first block of columns. -/
theorem sound_A (c : Dev nD) (q : Fin 8) :
    bodyPre m c (base q) ⊢ wp frame (wpE (defs₀ (F := F)) Variants.none c none) Set.univ (bodyAt0 (base q)) (fun _ => bodyPost m c (base q)) := by
  have h := base_mod q
  obtain ⟨b0, b1, b2, b3, b4, b5, b6, b7⟩ := before_in m c (base q)
  obtain ⟨l0, l1, l2, l3, l4, l5, l6, l7⟩ := leaves_in m c (base q)
  unfold bodyPre bodyPost bodyAt0
  simp only [b0, b1, b2, b3, b4, b5, b6, b7]
  rw [show (dats m 0 c).owesAt () (base q).succ = (dats m 0 c).owesAt () (base q).castSucc from rfl, Phi_succ, Phi_castSucc,
    l0, l1, l2, l3, l4, l5, l6, l7, leaves_8, leaves_10]
  have hP := PhiS_any m c (base q).val (Nat.le_of_lt (base q).isLt)
  rw [PhiA_eq] at hP
  have l9 := leaves_9 m c (base q)
  rw [rowq_base] at l9 ⊢
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave ⟨⟨HS0, HS1⟩, Hg⟩ := hP $$ HP
  iapply ((storesA m c (base q) h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, ⟨%e8, H8⟩, ⟨%e9, H9⟩, ⟨%e10, H10⟩, ⟨%es0, HS0⟩, ⟨%fT1, HS1⟩⟩
  isplitl [HS0 HS1 Hg]
  · isplitl [HS0 HS1]
    · isplitl [HS0]
      · unfold owns; iexists _; isplitr
        swap; · iexact HS0
        ipureintro; exact View.read_writes_of_cover _ _ _ _ _ (coverAu m c (base q) h)
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns zAt; rw [dif_pos h]; iexists _; isplitr
    swap; · iexact H8
    ipureintro; exact View.read_writes_of_cover _ _ _ _ _ (coverA8 m c (base q) h)
  isplitl [H9]
  · iapply l9
    unfold owns; iexists _; isplitr
    swap; · iexact H9
    ipureintro; exact View.read_writes_of_cover _ _ _ _ _ (coverA9 m c (base q) h)
  unfold owns oAt; rw [dif_pos h]; iexists _; isplitr
  swap; · iexact H10
  ipureintro; exact View.read_writes_of_cover _ _ _ _ _ (coverA10 m c (base q) h)

set_option maxHeartbeats 3200000 in
/-- The body at the other blocks of columns. -/
theorem sound_B (c : Dev nD) (t : Fin cfg0.N) (h : ¬t.val % 4 = 0) :
    bodyPre m c t ⊢ wp frame (wpE (defs₀ (F := F)) Variants.none c none) Set.univ (bodyAt0 t) (fun _ => bodyPost m c t) := by
  obtain ⟨b0, b1, b2, b3, b4, b5, b6, b7⟩ := before_in m c t
  obtain ⟨l0, l1, l2, l3, l4, l5, l6, l7⟩ := leaves_in m c t
  have l9 := leaves_9 m c t
  unfold bodyPre bodyPost bodyAt0
  simp only [b0, b1, b2, b3, b4, b5, b6, b7, before_9 m c t h]
  rw [show (dats m 0 c).owesAt () t.succ = (dats m 0 c).owesAt () t.castSucc from rfl, Phi_succ, Phi_castSucc, PhiS_pos m c t h,
    l0, l1, l2, l3, l4, l5, l6, l7, leaves_8, leaves_10]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((storesB m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [HS0]; · iexact HS0
  isplitl [HS1]; · iexact HS1
  iintro ⟨H0, H1, H2, H3, H4, H5, H6, H7, ⟨%e8, H8⟩, H9, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns zAt; rw [dif_neg h]; iexists _; isplitr
    swap; · iexact H8
    ipureintro; exact View.read_writes_of_cover _ _ _ _ _ (coverB8 m c t h)
  isplitl [H9]
  · iapply l9; iexact H9
  unfold owns oAt; rw [dif_neg h]; iexists _; isplitr
  swap; · iexact H10
  ipureintro; exact View.read_writes_of_cover _ _ _ _ _ (coverB10 m c t h)

theorem sound_body (c : Dev nD) (t : Fin cfg0.N) :
    bodyPre m c t ⊢ wp frame (wpE (defs₀ (F := F)) Variants.none c none) Set.univ (bodyAt0 t) (fun _ => bodyPost m c t) := by
  by_cases h : t.val % 4 = 0
  · rw [← base_rowq t h]; exact sound_A m c _
  · exact sound_B m c t h

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

/-! ## The run -/

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- Every run ends, with every array at what the proof data say and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.refl _) (hout := hout m)

/-- The frame, over any float values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) ((θ_run defs _ _).mono (fun _ h => h.1) (run_main m ρ))) ((θ_run defs _ _).mono (fun _ h => h.2) (run_main m ρ))

end Cert.Inp

end
-- ==== Proof.InBody.lean ====
module

public import proofs.«01_k».proof.Proof.InFrame

/-! # The input projection's stores as families

At the first block of columns the body norms four tiles of 512 rows (`normPiece`), multiplies each by the forget gates' weights
(`gatePiece`) and by its columns' weights (`projPiece`), and then walks the log-forgets in sixteen blocks of 128 positions: `blockOf`
sums one block's log-forgets from the sum before it, and eight stores write the block's pairs of heads (`sumPiece`). Elsewhere it
only multiplies (`plainPiece`). The theorems say that the run's lists of stores are these families, newest first. -/

@[expose] public section

set_option maxRecDepth 16384

noncomputable section

namespace Cert.Inp

open Cert.Kernel3Ideal Cert.Kernel3Ideal.Gen
open Idealize.ShloMosaic Idealize.ShloMosaic.TcCoe Idealize.ShloMosaic.Tactic

variable {F : FTy → Type} [FloatOps F]

/-! ## The blocks' places -/

theorem inbU (n : Fin 4) : ∀ a, (![512 * n.val, 0] : Fin 2 → ℕ) a + S512x1024.size a ≤ S2048x1024.size a := by
  intro a
  have hn := n.isLt
  fin_cases a
  · show 512 * n.val + 512 ≤ 2048; omega
  · show 0 + 1024 ≤ 1024; omega

theorem inbT (n : Fin 4) : ∀ a, (![512 * n.val, 0] : Fin 2 → ℕ) a + S512x128.size a ≤ S2048x128.size a := by
  intro a
  have hn := n.isLt
  fin_cases a
  · show 512 * n.val + 512 ≤ 2048; omega
  · show 0 + 128 ≤ 128; omega

theorem inbZ (n : Fin 4) : ∀ a, (![512 * n.val, 0] : Fin 2 → ℕ) a + S512x1792.size a ≤ S2048x1792.size a := by
  intro a
  have hn := n.isLt
  fin_cases a
  · show 512 * n.val + 512 ≤ 2048; omega
  · show 0 + 1792 ≤ 1792; omega

theorem inbG (n : Fin 4) : ∀ a, (![0, 512 * n.val] : Fin 2 → ℕ) a + S16x512.size a ≤ S16x2048.size a := by
  intro a
  have hn := n.isLt
  fin_cases a
  · show 0 + 16 ≤ 16; omega
  · show 512 * n.val + 512 ≤ 2048; omega

theorem inbL (n : Fin 16) : ∀ a, (![0, 128 * n.val] : Fin 2 → ℕ) a + S16x128.size a ≤ S16x2048.size a := by
  intro a
  have hn := n.isLt
  fin_cases a
  · show 0 + 16 ≤ 16; omega
  · show 128 * n.val + 128 ≤ 2048; omega

theorem inbC (n : Fin 16) (p : Fin 8) : ∀ a, (![0, p.val, 0, 128 * n.val] : Fin 4 → ℕ) a + S1x1x2x128.size a ≤ S1x8x2x2048.size a := by
  intro a
  have hn := n.isLt
  have hp := p.isLt
  fin_cases a
  · show 0 + 1 ≤ 1; omega
  · show p.val + 1 ≤ 8; omega
  · show 0 + 2 ≤ 2; omega
  · show 128 * n.val + 128 ≤ 2048; omega

theorem slicePair : ∀ p : Fin 8, S16x128.Slices ![2 * p.val, 0] S2x128 := by decide

/-! ## One block of log-forgets -/

/-- One step of the sum along the lanes: add what lies `w` lanes before, where there is such a lane. -/
def laneStep (w : BitVec 32) (x : FVec F S16x128 .f32) : FVec F S16x128 .f32 :=
  addf x (select (cmpi .sge (iota .tc S16x128 32 [1] iota_S16x128_d1_w32) (broadcast S16x128 w)) (dynamicRotate 1 w none x rotates_S16x128_d1)
    (broadcast S16x128 (Scalar.ofBits .f32 0x00000000#32)))

/-- The log-forgets of one block of positions. -/
def forgetOf (bf : FVec F S16x1 .f32) (lf : FVec F S16x128 .f32) : FVec F S16x128 .f32 :=
  subf (minimumf (addf lf (broadcastTo S16x128 bf broadcasts_S16x1_S16x128)) (broadcast S16x128 (Scalar.ofBits .f32 0x00000000#32)))
    (log1p (exp (subf (broadcast S16x128 (Scalar.ofBits .f32 0x00000000#32)) (absf (addf lf (broadcastTo S16x128 bf broadcasts_S16x1_S16x128))))))

/-- Their sums along the lanes. -/
def lanesOf (x : FVec F S16x128 .f32) : FVec F S16x128 .f32 :=
  laneStep 64#32 (laneStep 32#32 (laneStep 16#32 (laneStep 8#32 (laneStep 4#32 (laneStep 2#32 (laneStep 1#32 x))))))

/-- One block's sums, from the sum before the block. -/
def blockOf (bf carry : FVec F S16x1 .f32) (lf : FVec F S16x128 .f32) : FVec F S16x128 .f32 :=
  addf (lanesOf (forgetOf bf lf)) (broadcastTo S16x128 carry broadcasts_S16x1_S16x128)

/-- The sums so far, from a block's sums. -/
def carryOf (x : FVec F S16x128 .f32) : FVec F S16x1 .f32 := extractStridedSlice S16x1 ![0, 127] x slices_S16x128_o0_127_S16x1

/-- The forget gates' bias as a column. -/
def biasOf (b : Vec F S1x16 .f32) : FVec F S16x1 .f32 := k0_pay45 k0_pay42 (k0_pay43 b) k0_pay44

section Point

variable (arg2 : Memref sig .tc .vmem S2048x1024 .f32) (harg2 : arg2.IsWhole) (arg3 : Memref sig .tc .vmem S1x1024 .f32) (harg3 : arg3.IsWhole)
  (arg4 : Memref sig .tc .vmem S1792x1024 .bf16) (harg4 : arg4.IsWhole) (arg5 : Memref sig .tc .vmem S8x1 .f32) (harg5 : arg5.IsWhole)
  (arg6 : Memref sig .tc .vmem S16x1024 .f32) (harg6 : arg6.IsWhole) (arg7 : Memref sig .tc .vmem S1x16 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S2048x1792 .bf16) (harg10 : arg10.IsWhole) (arg11 : Memref sig .tc .vmem S1x8x2x2048 .f32) (harg11 : arg11.IsWhole)
  (arg12 : Memref sig .tc .vmem S8x1024 .bf16) (harg12 : arg12.IsWhole) (arg13 : Memref sig .tc .vmem S2048x1024 .bf16) (harg13 : arg13.IsWhole)
  (arg14 : Memref sig .tc .vmem S16x2048 .f32) (harg14 : arg14.IsWhole)
  (x0 : Vec F S2048x1024 .f32) (x1 : Vec F S1x1024 .f32) (x2 : Vec F S1792x1024 .bf16) (x3 : Vec F S8x1 .f32) (x4 : Vec F S16x1024 .f32)
  (x5 : Vec F S1x16 .f32) (x6 : Vec F S2048x128 .f32) (x7 : Vec F S2048x128 .f32) (xs9 : Vec F S1x8x2x2048 .f32) (xs : Vec F S2048x1024 .bf16)

/-- The normed rows of tile `r`. -/
def normTile (r : Fin 4) : FVec F S512x1024 .bf16 :=
  k0_pay14 (View.readAt (Elt F) arg2.view (Rect.unit (s := S2048x1024) ![512 * r.val, 0] S512x1024.size (inbU r)).toLoadRect (harg2.unread x0))
    (View.readAt (Elt F) arg3.view (Rect.unit (s := S1x1024) ![0, 0] S1x1024.size inb_S1x1024_S1x1024_0_0).toLoadRect (harg3.unread x1))

/-- Their store into the scratch. -/
def normPiece (r : Fin 4) : View.Piece (Elt F) S2048x1024 .bf16 :=
  ⟨Rect.unit ![512 * r.val, 0] S512x1024.size (inbU r), normTile arg2 harg2 arg3 harg3 x0 x1 r⟩

/-- The first `n` stores into the scratch, newest first. -/
def normPieces : (n : ℕ) → n ≤ 4 → List (View.Piece (Elt F) S2048x1024 .bf16)
  | 0, _ => []
  | n + 1, hn => normPiece arg2 harg2 arg3 harg3 x0 x1 ⟨n, hn⟩ :: normPieces n (by omega)

/-- Tile `r` read back from the scratch, right after its store. -/
def normRead (r : Fin 4) : Vec F S512x1024 .bf16 :=
  arg13.view.readCov (normPieces arg2 harg2 arg3 harg3 x0 x1 (r.val + 1) r.isLt) (Rect.unit (s := S2048x1024) ![512 * r.val, 0] S512x1024.size (inbU r)).toLoadRect

/-- The forget gates' products of tile `r`, stored into the second scratch. -/
def gatePiece (r : Fin 4) : View.Piece (Elt F) S16x2048 .f32 :=
  ⟨Rect.unit ![0, 512 * r.val] S16x512.size (inbG r),
    k0_pay15 (View.readAt (Elt F) arg6.view (Rect.unit (s := S16x1024) ![0, 0] S16x1024.size inb_S16x1024_S16x1024_0_0).toLoadRect (harg6.unread x4))
      (normRead arg2 harg2 arg3 harg3 arg13 x0 x1 r)⟩

/-- The columns' weights, as the body loads them. -/
def weights : Vec F S1792x1024 .bf16 :=
  View.readAt (Elt F) arg4.view (Rect.unit (s := S1792x1024) ![0, 0] S1792x1024.size inb_S1792x1024_S1792x1024_0_0).toLoadRect (harg4.unread x2)

/-- Tile `r` of the projection, rotated. -/
def projTile (r : Fin 4) (u : Vec F S512x1024 .bf16) : FVec F S512x1792 .bf16 :=
  k0_pay16 (k0_pay13 (weights arg4 harg4 x2)) u (constant S512x1792 .f32 0x00000000#32)
    (View.readAt (Elt F) arg8.view (Rect.unit (s := S2048x128) ![512 * r.val, 0] S512x128.size (inbT r)).toLoadRect (harg8.unread x6))
    (View.readAt (Elt F) arg9.view (Rect.unit (s := S2048x128) ![512 * r.val, 0] S512x128.size (inbT r)).toLoadRect (harg9.unread x7))

/-- Its store. -/
def projPiece (r : Fin 4) : View.Piece (Elt F) S2048x1792 .bf16 :=
  ⟨Rect.unit ![512 * r.val, 0] S512x1792.size (inbZ r),
    projTile arg4 harg4 arg8 harg8 arg9 harg9 x2 x6 x7 r (normRead arg2 harg2 arg3 harg3 arg13 x0 x1 r)⟩

/-- The same away from the first block of columns: no rotation, the normed rows from the scratch. -/
def plainPiece (r : Fin 4) : View.Piece (Elt F) S2048x1792 .bf16 :=
  ⟨Rect.unit ![512 * r.val, 0] S512x1792.size (inbZ r),
    k0_pay8 (weights arg4 harg4 x2)
      (View.readAt (Elt F) arg13.view (Rect.unit (s := S2048x1024) ![512 * r.val, 0] S512x1024.size (inbU r)).toLoadRect (harg13.unread xs))⟩

/-- Block `n` of the forget gates' products. -/
def gateRead (n : Fin 16) : Vec F S16x128 .f32 :=
  arg14.view.readCov (List.ofFn fun k : Fin 4 => gatePiece arg2 harg2 arg3 harg3 arg6 harg6 arg13 x0 x1 x4 ⟨3 - k.val, by omega⟩)
    (Rect.unit (s := S16x2048) ![0, 128 * n.val] S16x128.size (inbL n)).toLoadRect

/-- The bias, from its buffer. -/
def biasRead : FVec F S16x1 .f32 :=
  biasOf (View.readAt (Elt F) arg7.view (Rect.unit (s := S1x16) ![0, 0] S1x16.size inb_S1x16_S1x16_0_0).toLoadRect (harg7.unread x5))

/-- The sums of block `n`, each block's from the one before. -/
def sumsRaw : (n : ℕ) → n < 16 → FVec F S16x128 .f32
  | 0, hn => blockOf (biasRead arg7 harg7 x5) k0_pay41 (gateRead arg2 harg2 arg3 harg3 arg6 harg6 arg13 arg14 x0 x1 x4 ⟨0, hn⟩)
  | n + 1, hn => blockOf (biasRead arg7 harg7 x5) (carryOf (sumsRaw n (by omega))) (gateRead arg2 harg2 arg3 harg3 arg6 harg6 arg13 arg14 x0 x1 x4 ⟨n + 1, hn⟩)

/-- The store of block `n`'s sums for pair `p` of heads. -/
def sumPiece (n : Fin 16) (p : Fin 8) : View.Piece (Elt F) S1x8x2x2048 .f32 :=
  ⟨Rect.unit ![0, p.val, 0, 128 * n.val] S1x1x2x128.size (inbC n p),
    shapeCast S1x1x2x128 (extractStridedSlice S2x128 ![2 * p.val, 0] (sumsRaw arg2 harg2 arg3 harg3 arg6 harg6 arg7 harg7 arg13 arg14 x0 x1 x4 x5 n.val n.isLt) (slicePair p)) shapeCasts_S2x128_S1x1x2x128⟩

theorem norm_pieces (c : Dev nD) (i : grid0.Coords) (hc0 : cond0_0 i) (hc1 : ¬cond0_1 i) :
    (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1
      = normPieces arg2 harg2 arg3 harg3 x0 x1 4 le_rfl := by
  sl_kernel_rfl

theorem proj_pieces (c : Dev nD) (i : grid0.Coords) (hc0 : cond0_0 i) (hc1 : ¬cond0_1 i) :
    (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1
      = List.ofFn fun k : Fin 4 => projPiece arg2 harg2 arg3 harg3 arg4 harg4 arg8 harg8 arg9 harg9 arg13 x0 x1 x2 x6 x7 ⟨3 - k.val, by omega⟩ := by
  sl_kernel_rfl

theorem plain_pieces (c : Dev nD) (i : grid0.Coords) (hc0 : ¬cond0_0 i) (hc1 : cond0_1 i) :
    (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs9 xs).1
      = List.ofFn fun k : Fin 4 => plainPiece arg4 harg4 arg13 harg13 x2 xs ⟨3 - k.val, by omega⟩ := by
  sl_kernel_rfl

set_option maxHeartbeats 4000000 in
theorem sum_pieces (c : Dev nD) (i : grid0.Coords) (hc0 : cond0_0 i) (hc1 : ¬cond0_1 i) :
    (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1
      = List.ofFn fun k : Fin 128 => sumPiece arg2 harg2 arg3 harg3 arg6 harg6 arg7 harg7 arg13 arg14 x0 x1 x4 x5 ⟨15 - k.val / 8, by omega⟩ ⟨7 - k.val % 8, by omega⟩ := by
  sl_kernel_rfl

end Point

end Cert.Inp

end
-- ==== Proof.InSums.lean ====
module

public import proofs.«01_k».proof.Proof.RetAt
public import Idealize.ShloMosaic.Lib.IdealHost
public import Idealize.ShloMosaic.Lib.Pointwise
public import Idealize.ShloMosaic.Lib.Routing.OpsSet
public import Idealize.ShloMosaic.Lib.Routing.OpsPair

/-! # The input projection's sums

Scaling a dot product, a prefix sum by doubling steps, the logarithm of a sigmoid in two forms, and the host's cumulative sum. -/

@[expose] public section

set_option maxRecDepth 16384

noncomputable section

namespace Cert.Inp

open Idealize.ShloMosaic Idealize.ShloMosaic.Routing Cert.Ret

/-- A dot product of length 1024. -/
def dotE (u w : ℕ → EReal) : EReal := ∑ k : Fin 1024, u k * w k

theorem dotE_congr {u w u' w' : ℕ → EReal} (hu : ∀ k, k < 1024 → u k = u' k) (hw : ∀ k, k < 1024 → w k = w' k) : dotE u w = dotE u' w' :=
  Finset.sum_congr rfl fun k _ => by rw [hu k k.isLt, hw k k.isLt]

theorem sum_mul_real {ι : Type} (t : Finset ι) (f : ι → EReal) (s : EReal) (h0 : 0 ≤ s) (h1 : s ≠ ⊤) : (∑ k ∈ t, f k) * s = ∑ k ∈ t, f k * s := by
  classical
  induction t using Finset.induction_on with
  | empty => simp
  | insert a t ha ih => rw [Finset.sum_insert ha, Finset.sum_insert ha, EReal.right_distrib_of_nonneg_of_ne_top h0 h1, ih]

/-- Scaling the weights scales the product. -/
theorem dotE_scale (u w : ℕ → EReal) (s : EReal) (h0 : 0 ≤ s) (h1 : s ≠ ⊤) : dotE u (fun k => w k * s) = dotE u w * s := by
  unfold dotE
  rw [sum_mul_real _ _ _ h0 h1]
  exact Finset.sum_congr rfl fun k _ => (mul_assoc _ _ _).symm

/-! ## Sums along the lanes -/

/-- The sum of the `w` values up to lane `l`. -/
def lastW (f : ℕ → EReal) (w l : ℕ) : EReal := ∑ j ∈ Finset.range w, if j ≤ l then f (l - j) else 0

theorem lastW_one (f : ℕ → EReal) (l : ℕ) : lastW f 1 l = f l := by
  unfold lastW
  rw [Finset.sum_range_one, if_pos (Nat.zero_le _), Nat.sub_zero]

theorem lastW_double (f : ℕ → EReal) (w l : ℕ) : lastW f w l + (if w ≤ l then lastW f w (l - w) else 0) = lastW f (w + w) l := by
  unfold lastW
  rw [Finset.sum_range_add]
  refine congrArg (_ + ·) ?_
  by_cases h : w ≤ l
  · rw [if_pos h]
    refine Finset.sum_congr rfl fun j _ => ?_
    by_cases hj : j ≤ l - w
    · rw [if_pos hj, if_pos (by omega), Nat.sub_sub]
    · rw [if_neg hj, if_neg (by omega)]
  · rw [if_neg h]
    refine (Finset.sum_eq_zero fun j _ => ?_).symm
    rw [if_neg (by omega)]

theorem lastW_all (f : ℕ → EReal) (w l : ℕ) (h : l < w) : lastW f w l = ∑ i ∈ Finset.range (l + 1), f i := by
  unfold lastW
  rw [← Finset.sum_filter, show (Finset.range w).filter (fun j => j ≤ l) = Finset.range (l + 1) from by ext j; simp only [Finset.mem_filter, Finset.mem_range]; omega]
  rw [← Finset.sum_range_reflect]
  refine Finset.sum_congr rfl fun j hj => ?_
  have := Finset.mem_range.mp hj
  exact congrArg f (by omega)

/-- A step of the doubling: add what lies `w` lanes before. -/
def stepE (w : ℕ) (f : ℕ → EReal) (l : ℕ) : EReal := f l + (if w ≤ l then f (l - w) else 0)

/-- Seven steps sum every lane up to its own. -/
theorem steps_eq (f : ℕ → EReal) (l : ℕ) (h : l < 128) :
    stepE 64 (stepE 32 (stepE 16 (stepE 8 (stepE 4 (stepE 2 (stepE 1 f)))))) l = ∑ i ∈ Finset.range (l + 1), f i := by
  have e0 : f = lastW f 1 := funext fun l => (lastW_one f l).symm
  have e : ∀ w, stepE w (lastW f w) = lastW f (w + w) := fun w => funext fun l => lastW_double f w l
  have e1 : stepE 1 f = lastW f 2 := (congrArg (stepE 1) e0).trans (e 1)
  rw [e1, e 2, e 4, e 8, e 16, e 32, e 64]
  exact lastW_all f 128 l h

/-! ## The logarithm of a sigmoid -/

/-- The log-sigmoid, as the kernel computes it. -/
def lsE (v : EReal) : EReal := min v 0 - Ideal.log1p (Ideal.exp (0 - max v (-v)))

theorem log_real_ne (r : ℝ) (h : 0 < r) : Ideal.log (r : EReal) ≠ ⊥ := by
  show (if r ≤ 0 then ⊥ else ((Real.log r : ℝ) : EReal)) ≠ ⊥
  rw [if_neg (not_le.mpr h)]
  exact EReal.coe_ne_bot _

theorem log1p_exp_ne_bot (t : EReal) : Ideal.log1p (Ideal.exp t) ≠ ⊥ := by
  unfold Ideal.log1p
  induction t using EReal.rec with
  | bot =>
    show Ideal.log (1 + 0) ≠ ⊥
    rw [add_zero]
    exact log_real_ne 1 one_pos
  | coe r =>
    show Ideal.log (((1 : ℝ) : EReal) + ((Real.exp r : ℝ) : EReal)) ≠ ⊥
    rw [← EReal.coe_add]
    exact log_real_ne _ (by positivity)
  | top =>
    show Ideal.log (((1 : ℝ) : EReal) + ⊤) ≠ ⊥
    rw [EReal.coe_add_top]
    exact top_ne_bot

/-- The softplus of `-v`, negated, is the log-sigmoid of `v`. -/
theorem ls_eq (v : EReal) : -(max (-v) 0 + Ideal.log1p (Ideal.exp (-(max (-v) (- -v))))) = lsE v := by
  unfold lsE
  rw [neg_neg, max_comm (-v) v, zero_sub]
  have h : max (-v) 0 ≠ ⊥ := fun e => absurd (le_max_right (-v) 0) (by rw [e]; exact not_le.mpr EReal.bot_lt_zero)
  rw [EReal.neg_add (.inl h) (.inr (log1p_exp_ne_bot _))]
  refine congrArg (· - _) ?_
  rcases le_total v 0 with hv | hv
  · rw [max_eq_left (by simpa using EReal.neg_le_neg_iff.mpr hv), neg_neg, min_eq_left hv]
  · rw [max_eq_right (by simpa using EReal.neg_le_neg_iff.mpr hv), neg_zero, min_eq_right hv]

/-! ## The host's cumulative sum -/

theorem foldl_add_sum (N : ℕ) (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

theorem sum_window (f : ℕ → EReal) (M s : ℕ) (hs : s < M + 1) :
    (∑ k : Fin (M + 1), if M ≤ s + k.val then f (s + k.val - M) else 0) = ∑ i ∈ Finset.range (s + 1), f i := by
  rw [Fin.sum_univ_eq_sum_range (fun k => if M ≤ s + k then f (s + k - M) else 0) (M + 1), ← Finset.sum_filter]
  refine Finset.sum_nbij' (fun k => s + k - M) (fun i => i + M - s) ?_ ?_ ?_ ?_ ?_ <;>
    intro k hk <;> simp only [Finset.mem_filter, Finset.mem_range] at hk ⊢ <;> omega

/-- The window of one sequence's positions as a range. -/
def winEquiv (M : ℕ) : (⟨3, ![1, M + 1, 1]⟩ : Shape).Idx ≃ Fin (M + 1) where
  toFun y := y 1
  invFun k := ix3 (0 : Fin 1) k (0 : Fin 1)
  left_inv y := by
    funext a
    fin_cases a
    · exact Subsingleton.elim (α := Fin 1) _ _
    · rfl
    · exact Subsingleton.elim (α := Fin 1) _ _
  right_inv _ := rfl

theorem dite_to_ite {α : Type} {P Q : Prop} {dP : Decidable P} {dQ : Decidable Q} {f : P → α} {v w : α} (h : P ↔ Q) (hf : ∀ p, f p = w) :
    @dite α P dP f (fun _ => v) = @ite α Q dQ w v := by
  by_cases hp : P
  · rw [dif_pos hp, if_pos (h.mp hp), hf]
  · rw [dif_neg hp, if_neg fun q => hp (h.mpr q)]

/-- The cumulative sum along the positions. -/
theorem cumsum_apply {B M C : ℕ} (x : (⟨3, ![B, M + 1, C]⟩ : Shape).Idx → EReal) (init : (⟨0, ![]⟩ : Shape).Idx → EReal) (hinit : ∀ i, init i = 0)
    (h : (⟨3, ![B, M + 1, C]⟩ : Shape).ReduceWindows (![1, M + 1, 1] : Fin 3 → ℕ) ![1, 1, 1] ![0, M, 0] ![0, 0, 0] ⟨3, ![B, M + 1, C]⟩)
    (hu : 0 < (⟨0, ![]⟩ : Shape).numel) (b : Fin B) (s : Fin (M + 1)) (e : Fin C) :
    Host.reduceWindowAdd (F := Ideal) (φ := .f32) ![1, M + 1, 1] ![1, 1, 1] ![0, M, 0] ![0, 0, 0] x init h hu (ix3 b s e)
      = ∑ i ∈ Finset.range (s.val + 1), at3 x b i e := by
  have hs := s.isLt
  have hb := b.isLt
  have he := e.isLt
  show Host.reduceWindow (· + ·) ![1, M + 1, 1] ![1, 1, 1] ![0, M, 0] ![0, 0, 0] x (fun _ : (⟨0, ![]⟩ : Shape).Idx => init (Shape.Idx.first hu)) h hu (ix3 b s e) = _
  rw [hinit]
  unfold Host.reduceWindow
  rw [foldl_add_sum, zero_add]
  rw [← sum_window (fun i => at3 x b i e) M s.val hs]
  rw [← Equiv.sum_comp (winEquiv M), ← Equiv.sum_comp (⟨3, ![1, M + 1, 1]⟩ : Shape).rowMajor.symm]
  refine Finset.sum_congr rfl fun n _ => ?_
  have h0 : ((⟨3, ![1, M + 1, 1]⟩ : Shape).rowMajor.symm n 0).val = 0 := Nat.lt_one_iff.mp ((⟨3, ![1, M + 1, 1]⟩ : Shape).rowMajor.symm n 0).isLt
  have h2 : ((⟨3, ![1, M + 1, 1]⟩ : Shape).rowMajor.symm n 2).val = 0 := Nat.lt_one_iff.mp ((⟨3, ![1, M + 1, 1]⟩ : Shape).rowMajor.symm n 2).isLt
  have h1 : ((⟨3, ![1, M + 1, 1]⟩ : Shape).rowMajor.symm n 1).val < M + 1 := ((⟨3, ![1, M + 1, 1]⟩ : Shape).rowMajor.symm n 1).isLt
  refine dite_to_ite (Q := M ≤ s.val + ((⟨3, ![1, M + 1, 1]⟩ : Shape).rowMajor.symm n 1).val) ⟨fun q => ?_, fun hw a => ?_⟩ fun q => ?_
  · have q1 := q 1
    change M ≤ s.val * 1 + ((⟨3, ![1, M + 1, 1]⟩ : Shape).rowMajor.symm n 1).val ∧ _ at q1
    omega
  · match a with
    | ⟨0, _⟩ => show 0 ≤ b.val * 1 + ((⟨3, ![1, M + 1, 1]⟩ : Shape).rowMajor.symm n 0).val ∧ b.val * 1 + ((⟨3, ![1, M + 1, 1]⟩ : Shape).rowMajor.symm n 0).val - 0 < B; omega
    | ⟨1, _⟩ => show M ≤ s.val * 1 + ((⟨3, ![1, M + 1, 1]⟩ : Shape).rowMajor.symm n 1).val ∧ s.val * 1 + ((⟨3, ![1, M + 1, 1]⟩ : Shape).rowMajor.symm n 1).val - M < M + 1; omega
    | ⟨2, _⟩ => show 0 ≤ e.val * 1 + ((⟨3, ![1, M + 1, 1]⟩ : Shape).rowMajor.symm n 2).val ∧ e.val * 1 + ((⟨3, ![1, M + 1, 1]⟩ : Shape).rowMajor.symm n 2).val - 0 < C; omega
  · have q1 := q 1
    change M ≤ s.val * 1 + ((⟨3, ![1, M + 1, 1]⟩ : Shape).rowMajor.symm n 1).val ∧ _ at q1
    refine Eq.trans ?_ (at3_ix x b ⟨s.val + ((⟨3, ![1, M + 1, 1]⟩ : Shape).rowMajor.symm n 1).val - M, by omega⟩ e)
    refine congrArg x (funext fun a => Fin.ext ?_)
    match a with
    | ⟨0, _⟩ => show b.val * 1 + ((⟨3, ![1, M + 1, 1]⟩ : Shape).rowMajor.symm n 0).val - 0 = b.val; omega
    | ⟨1, _⟩ => show s.val * 1 + ((⟨3, ![1, M + 1, 1]⟩ : Shape).rowMajor.symm n 1).val - M = s.val + ((⟨3, ![1, M + 1, 1]⟩ : Shape).rowMajor.symm n 1).val - M; omega
    | ⟨2, _⟩ => show e.val * 1 + ((⟨3, ![1, M + 1, 1]⟩ : Shape).rowMajor.symm n 2).val - 0 = e.val; omega

/-! ## Setting rows of a column -/

/-- Setting `A` rows of a column from row `k` on to one value. -/
theorem set_rows {N A : ℕ} (d : ScatterDims (shape2 N 1) (shape1 1) (shape2 A 1)) (huw : d.updateWindowDims = [0, 1]) (hiw : d.insertedWindowDims = [])
    (hsd : d.scatterDimsToOperandDims = [0]) (x0 : (shape2 N 1).Idx → EReal) (idx : IVec (shape1 1) 32) (upd : (shape2 A 1).Idx → EReal) (v : EReal)
    (hv : ∀ j, upd j = v) (k : ℕ) (hidx : (idx (ix1 0)).toInt = (k : Int)) (e : Fin N) :
    Host.scatter d (fun _ b => b) x0 idx upd (ix2 e 0) = if k ≤ e.val ∧ e.val < k + A then v else x0 (ix2 e 0) := by
  have hkept : d.sKept = [0, 1] := by
    show (shape2 N 1).kept d.insertedWindowDims = _
    rw [hiw]
    rfl
  have hwin : ∀ (j : (shape2 A 1).Idx) (a : Fin 2), d.window j a = (j a).val := by
    intro j a
    unfold ScatterDims.window
    rw [dif_pos (by rw [hkept]; fin_cases a <;> simp)]
    have : ∀ q : Fin 2, q = a → (j q).val = (j a).val := fun q hq => by rw [hq]
    refine this _ ?_
    simp only [hkept, huw]
    fin_cases a <;> rfl
  have hstart1 : ∀ j : (shape2 A 1).Idx, d.start j idx 1 = 0 := fun j => by
    unfold ScatterDims.start
    rw [dif_neg fun h => by rw [hsd] at h; exact absurd (List.mem_singleton.1 h) (by decide : (1 : Fin 2) ≠ 0)]
  have hm : (0 : Fin 2) ∈ d.scatterDimsToOperandDims := by rw [hsd]; exact List.mem_singleton.2 rfl
  have hstart0 : ∀ j : (shape2 A 1).Idx, d.start j idx 0 = (k : Int) := fun j => by
    unfold ScatterDims.start
    rw [dif_pos hm]
    have hsi : d.siIdx j ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  have lands : ∀ j : (shape2 A 1).Idx, d.resultIdx? j idx = some (ix2 e 0) ↔ k + (j 0).val = e.val := fun j => by
    have h1 : (j 1).val = 0 := Nat.lt_one_iff.mp (j 1).isLt
    refine (resultIdx?_ix2 d j idx e 0).trans ?_
    rw [hstart0, hwin, hstart1, hwin, h1]
    simp only [Fin.val_zero]
    omega
  by_cases h : k ≤ e.val ∧ e.val < k + A
  · rw [if_pos h]
    exact scatter_set_hit d x0 idx upd _ v (fun j _ => hv j) (ix2 ⟨e.val - k, by omega⟩ 0) ((lands _).2 (by show k + (e.val - k) = e.val; omega))
  · rw [if_neg h]
    refine scatter_set_miss d x0 idx upd _ fun j hj => h ?_
    have := (lands j).1 hj
    have hj0 : (j 0).val < A := (j 0).isLt
    omega

end Cert.Inp

end
-- ==== Proof.InPay.lean ====
module

public import proofs.«01_k».proof.Proof.InBody
public import proofs.«01_k».proof.Proof.InSums
public import proofs.«01_k».proof.Proof.OutKer

/-! # The input projection's values

What the body's expressions are entry by entry: the normed rows, their products with the weights, the rotation of the first 1024
columns, and the running sums of the log-forgets. -/

@[expose] public section

set_option maxRecDepth 16384

noncomputable section

namespace Cert.Inp

open Cert.Kernel3Ideal Cert.Kernel3Ideal.Gen
open Idealize.ShloMosaic Idealize.ShloMosaic.TcCoe Cert.Ret Cert.Outp

/-! ## The projection -/

theorem pay14_apply (x : Vec Ideal S512x1024 .f32) (g : Vec Ideal S1x1024 .f32) (r : Fin 512) (k : Fin 1024) :
    k0_pay14 (F := Ideal) x g (ix2 r k) = rmsE (at2 x r) (at2 g 0) k := by
  unfold rmsE
  pointwise [k0_pay14]
  simp only [at2_ix]
  rfl

theorem pay15_apply (w : Vec Ideal S16x1024 .f32) (u : Vec Ideal S512x1024 .bf16) (h : Fin 16) (r : Fin 512) :
    k0_pay15 (F := Ideal) w u (ix2 h r) = dotE (at2 u r) (at2 w h) := by
  unfold dotE
  pointwise [k0_pay15]
  simp only [at2_ix]
  exact Finset.sum_congr rfl fun k _ => mul_comm _ _

theorem pay8_apply (w : Vec Ideal S1792x1024 .bf16) (u : Vec Ideal S512x1024 .bf16) (r : Fin 512) (n : Fin 1792) :
    k0_pay8 (F := Ideal) w u (ix2 r n) = dotE (at2 u r) (at2 w n) := by
  unfold dotE
  pointwise [k0_pay8, k0_pay7]
  simp only [at2_ix]

/-- One value after the rotation of its 128 columns. -/
def rotE (z cs sn : ℕ → EReal) (n : ℕ) : EReal := z n * cs (n % 128) + z (128 * (n / 128) + (n + 64) % 128) * sn (n % 128)

theorem slice128 : ∀ q : Fin 8, S512x1792.Slices ![0, 128 * q.val] S512x128 := by decide

/-- The rotation of the `q`-th 128 columns. -/
def rotOf (P : FVec Ideal S512x1792 .f32) (cs sn : FVec Ideal S512x128 .f32) (q : Fin 8) : FVec Ideal S512x128 .f32 :=
  addf (mulf (extractStridedSlice S512x128 ![0, 128 * q.val] P (slice128 q)) cs)
    (mulf (dynamicRotate 1 64#32 none (extractStridedSlice S512x128 ![0, 128 * q.val] P (slice128 q)) rotates_S512x128_d1) sn)

theorem rotOf_apply (P : FVec Ideal S512x1792 .f32) (cs sn : FVec Ideal S512x128 .f32) (q : Fin 8) (r : Fin 512) (l : Fin 128) :
    rotOf P cs sn q (ix2 r l) = rotE (at2 P r) (at2 cs r) (at2 sn r) (128 * q + l) := by
  unfold rotE
  have e1 : (128 * q.val + l.val) % 128 = l.val := by omega
  have e2 : 128 * ((128 * q.val + l.val) / 128) + (128 * q.val + l.val + 64) % 128 = 128 * q.val + (l.val + 64) % 128 := by omega
  rw [e1, e2]
  pointwise [rotOf]
  simp only [at2_ix]
  rw [show (l.val + 128 - 64) % 128 = (l.val + 64) % 128 by omega]

/-- The product of the rows and the weights. -/
def prodOf (w : FVec Ideal S1792x1024 .bf16) (u : FVec Ideal S512x1024 .bf16) : FVec Ideal S512x1792 .f32 :=
  matmul dot_S512x1024_S1792x1024_S512x1792_1_1_0_0_n_n none u w (constant S512x1792 .f32 0x00000000#32)

theorem prodOf_apply (w : FVec Ideal S1792x1024 .bf16) (u : Vec Ideal S512x1024 .bf16) (r : Fin 512) (n : Fin 1792) :
    prodOf w u (ix2 r n) = dotE (at2 u r) (at2 w n) := by
  unfold dotE
  pointwise [prodOf]
  simp only [at2_ix]

theorem pay16_eq (w : FVec Ideal S1792x1024 .bf16) (u : Vec Ideal S512x1024 .bf16) (cs sn : Vec Ideal S512x128 .f32) :
    k0_pay16 (F := Ideal) w u (constant S512x1792 .f32 0x00000000#32) cs sn
      = truncf .bf16 (concatenate S512x1792 1 [⟨S512x128, rotOf (prodOf w u) (shapeCast _ cs shapeCasts_S512x128_S512x128) (shapeCast _ sn shapeCasts_S512x128_S512x128) 0⟩, ⟨S512x128, rotOf (prodOf w u) (shapeCast _ cs shapeCasts_S512x128_S512x128) (shapeCast _ sn shapeCasts_S512x128_S512x128) 1⟩,
        ⟨S512x128, rotOf (prodOf w u) (shapeCast _ cs shapeCasts_S512x128_S512x128) (shapeCast _ sn shapeCasts_S512x128_S512x128) 2⟩, ⟨S512x128, rotOf (prodOf w u) (shapeCast _ cs shapeCasts_S512x128_S512x128) (shapeCast _ sn shapeCasts_S512x128_S512x128) 3⟩,
        ⟨S512x128, rotOf (prodOf w u) (shapeCast _ cs shapeCasts_S512x128_S512x128) (shapeCast _ sn shapeCasts_S512x128_S512x128) 4⟩, ⟨S512x128, rotOf (prodOf w u) (shapeCast _ cs shapeCasts_S512x128_S512x128) (shapeCast _ sn shapeCasts_S512x128_S512x128) 5⟩,
        ⟨S512x128, rotOf (prodOf w u) (shapeCast _ cs shapeCasts_S512x128_S512x128) (shapeCast _ sn shapeCasts_S512x128_S512x128) 6⟩, ⟨S512x128, rotOf (prodOf w u) (shapeCast _ cs shapeCasts_S512x128_S512x128) (shapeCast _ sn shapeCasts_S512x128_S512x128) 7⟩,
        ⟨S512x768, extractStridedSlice S512x768 ![0, 1024] (prodOf w u) slices_S512x1792_o0_1024_S512x768⟩] concatenates_S512x128_S512x128_S512x128_S512x128_S512x128_S512x128_S512x128_S512x128_S512x768_S512x1792_d1) bitsLt_bf16_f32 := rfl

theorem pay16_apply (w : FVec Ideal S1792x1024 .bf16) (u : Vec Ideal S512x1024 .bf16) (cs sn : Vec Ideal S512x128 .f32) (r : Fin 512) (n : Fin 1792) :
    k0_pay16 (F := Ideal) w u (constant S512x1792 .f32 0x00000000#32) cs sn (ix2 r n)
      = if n.val < 1024 then rotE (fun n => dotE (at2 u r) (at2 w n)) (at2 cs r) (at2 sn r) n else dotE (at2 u r) (at2 w n) := by
  rw [pay16_eq]
  generalize hP : prodOf w u = P
  pointwise
  have hn := n.isLt
  have hP' : ∀ k, k < 1792 → at2 P r k = dotE (at2 u r) (at2 w k) := fun k hk => by
    rw [← hP]; exact (at2_ix _ r (⟨k, hk⟩ : Fin 1792)).symm.trans (prodOf_apply w u r ⟨k, hk⟩)
  have key : ∀ (q : Fin 8) (l : Fin 128), 128 * q.val + l.val = n.val →
      rotOf P cs sn q (ix2 r l) = rotE (fun n => dotE (at2 u r) (at2 w n)) (at2 cs r) (at2 sn r) n := fun q l e => by
    rw [rotOf_apply, e]
    unfold rotE
    rw [hP' _ hn, hP' _ (by omega)]
  by_cases h0 : n.val < 128
  · rw [dif_pos h0, if_pos (show n.val < 1024 by omega)]
    exact key 0 ⟨n.val, h0⟩ (by show 128 * 0 + (n.val) = n.val; omega)
  rw [dif_neg h0]
  by_cases h1 : n.val - 128 < 128
  · rw [dif_pos h1, if_pos (show n.val < 1024 by omega)]
    exact key 1 ⟨n.val - 128, h1⟩ (by show 128 * 1 + (n.val - 128) = n.val; omega)
  rw [dif_neg h1]
  by_cases h2 : n.val - 128 - 128 < 128
  · rw [dif_pos h2, if_pos (show n.val < 1024 by omega)]
    exact key 2 ⟨n.val - 128 - 128, h2⟩ (by show 128 * 2 + (n.val - 128 - 128) = n.val; omega)
  rw [dif_neg h2]
  by_cases h3 : n.val - 128 - 128 - 128 < 128
  · rw [dif_pos h3, if_pos (show n.val < 1024 by omega)]
    exact key 3 ⟨n.val - 128 - 128 - 128, h3⟩ (by show 128 * 3 + (n.val - 128 - 128 - 128) = n.val; omega)
  rw [dif_neg h3]
  by_cases h4 : n.val - 128 - 128 - 128 - 128 < 128
  · rw [dif_pos h4, if_pos (show n.val < 1024 by omega)]
    exact key 4 ⟨n.val - 128 - 128 - 128 - 128, h4⟩ (by show 128 * 4 + (n.val - 128 - 128 - 128 - 128) = n.val; omega)
  rw [dif_neg h4]
  by_cases h5 : n.val - 128 - 128 - 128 - 128 - 128 < 128
  · rw [dif_pos h5, if_pos (show n.val < 1024 by omega)]
    exact key 5 ⟨n.val - 128 - 128 - 128 - 128 - 128, h5⟩ (by show 128 * 5 + (n.val - 128 - 128 - 128 - 128 - 128) = n.val; omega)
  rw [dif_neg h5]
  by_cases h6 : n.val - 128 - 128 - 128 - 128 - 128 - 128 < 128
  · rw [dif_pos h6, if_pos (show n.val < 1024 by omega)]
    exact key 6 ⟨n.val - 128 - 128 - 128 - 128 - 128 - 128, h6⟩ (by show 128 * 6 + (n.val - 128 - 128 - 128 - 128 - 128 - 128) = n.val; omega)
  rw [dif_neg h6]
  by_cases h7 : n.val - 128 - 128 - 128 - 128 - 128 - 128 - 128 < 128
  · rw [dif_pos h7, if_pos (show n.val < 1024 by omega)]
    exact key 7 ⟨n.val - 128 - 128 - 128 - 128 - 128 - 128 - 128, h7⟩ (by show 128 * 7 + (n.val - 128 - 128 - 128 - 128 - 128 - 128 - 128) = n.val; omega)
  rw [dif_neg h7]
  rw [if_neg (show ¬n.val < 1024 by omega), ← hP' _ hn]
  refine (at2_ix P r (⟨1024 + (n.val - 128 - 128 - 128 - 128 - 128 - 128 - 128 - 128), by omega⟩ : Fin 1792)).trans (congrArg (at2 P r) ?_)
  show 1024 + (n.val - 128 - 128 - 128 - 128 - 128 - 128 - 128 - 128) = n.val
  omega

/-! ## The log-forgets -/

theorem cmp_ge : ∀ l w : Fin 128, IntOp.cmpi .sge (BitVec.ofNat 32 l.val) (BitVec.ofNat 32 w.val) = if w ≤ l then 1#1 else 0#1 := by decide +kernel

theorem cmp_eq : ∀ i j : Fin 16, IntOp.cmpi .eq (BitVec.ofNat 32 i.val) (BitVec.ofNat 32 j.val) = if i = j then 1#1 else 0#1 := by decide +kernel

theorem sel_ge (l w : Fin 128) (a : EReal) : Scalar.select (IntOp.cmpi .sge (BitVec.ofNat 32 l.val) (BitVec.ofNat 32 w.val)) a 0 = if w.val ≤ l.val then a else 0 := by
  rw [cmp_ge]
  by_cases h : w ≤ l
  · rw [if_pos h, if_pos (show w.val ≤ l.val from h)]; rfl
  · rw [if_neg h, if_neg (show ¬w.val ≤ l.val from h)]; rfl

theorem sel_eq (i j : Fin 16) (a : EReal) : Scalar.select (IntOp.cmpi .eq (BitVec.ofNat 32 i.val) (BitVec.ofNat 32 j.val)) a 0 = if i = j then a else 0 := by
  rw [cmp_eq]
  by_cases h : i = j
  · rw [if_pos h, if_pos h]; rfl
  · rw [if_neg h, if_neg h]; rfl

theorem laneStep_apply (w : Fin 128) (x : FVec Ideal S16x128 .f32) (h : Fin 16) (l : Fin 128) :
    laneStep (F := Ideal) (BitVec.ofNat 32 w.val) x (ix2 h l) = stepE w.val (at2 x h) l := by
  unfold stepE
  pointwise [laneStep]
  rw [sel_ge]
  have hw := w.isLt
  have hl := l.isLt
  have e : (BitVec.ofNat 32 w.val).toNat % 128 = w.val := by rw [BitVec.toNat_ofNat]; omega
  refine congrArg₂ _ (at2_ix x h l) ?_
  by_cases hle : w.val ≤ l.val
  · rw [if_pos hle, if_pos hle]
    refine (at2_ix x h _).trans (congrArg (at2 x h) ?_)
    show (l.val + 128 - (BitVec.ofNat 32 w.val).toNat % 128) % 128 = l.val - w.val
    rw [e]
    omega
  · rw [if_neg hle, if_neg hle]

theorem stepE_congr {w : ℕ} {f f' : ℕ → EReal} {l : ℕ} (hl : l < 128) (h : ∀ l, l < 128 → f l = f' l) : stepE w f l = stepE w f' l := by
  unfold stepE
  rw [h l hl, h _ (lt_of_le_of_lt (Nat.sub_le l w) hl)]

theorem lane_at (w : Fin 128) (x : FVec Ideal S16x128 .f32) (f : ℕ → EReal) (h : Fin 16) (hx : ∀ l, l < 128 → at2 x h l = f l) (l : ℕ) (hl : l < 128) :
    at2 (laneStep (F := Ideal) (BitVec.ofNat 32 w.val) x) h l = stepE w.val f l :=
  ((at2_ix _ h ⟨l, hl⟩).symm.trans (laneStep_apply w x h ⟨l, hl⟩)).trans (stepE_congr hl hx)

/-- The sums along the lanes of one block. -/
theorem lanesOf_apply (x : FVec Ideal S16x128 .f32) (h : Fin 16) (l : Fin 128) : lanesOf (F := Ideal) x (ix2 h l) = ∑ i ∈ Finset.range (l + 1), at2 x h i := by
  rw [← steps_eq _ _ l.isLt]
  refine (laneStep_apply 64 _ h l).trans (stepE_congr l.isLt ?_)
  exact lane_at 32 _ _ h (lane_at 16 _ _ h (lane_at 8 _ _ h (lane_at 4 _ _ h (lane_at 2 _ _ h (lane_at 1 _ _ h fun _ _ => rfl)))))

theorem forgetOf_apply (bf : FVec Ideal S16x1 .f32) (lf : FVec Ideal S16x128 .f32) (h : Fin 16) (l : Fin 128) :
    forgetOf (F := Ideal) bf lf (ix2 h l) = lsE (lf (ix2 h l) + bf (ix2 h 0)) := by
  unfold lsE
  pointwise [forgetOf]
  rfl

theorem carryOf_apply (x : FVec Ideal S16x128 .f32) (h : Fin 16) : carryOf (F := Ideal) x (ix2 h 0) = x (ix2 h 127) := by
  pointwise [carryOf]

theorem biasOf_apply (b : Vec Ideal S1x16 .f32) (h : Fin 16) : biasOf (F := Ideal) b (ix2 h 0) = b (ix2 0 h) := by
  pointwise [biasOf, k0_pay45, k0_pay44, k0_pay43, k0_pay42]
  rw [Finset.sum_eq_single h]
  · rw [sel_eq, if_pos rfl]
  · intro j _ hj
    rw [sel_eq, if_neg fun e => hj e.symm]
  · exact fun hn => absurd (Finset.mem_univ h) hn

end Cert.Inp

end
-- ==== Proof.InPoint.lean ====
module

public import proofs.«01_k».proof.Proof.InPay

/-! # What one point of the input projection leaves

The normed rows in the scratch, the projection's block, and the running sums of the log-forgets, as functions of the staged blocks. -/

@[expose] public section

set_option maxRecDepth 16384

noncomputable section

namespace Cert.Inp

open Cert.Kernel3Ideal Cert.Kernel3Ideal.Gen
open Idealize.ShloMosaic Idealize.ShloMosaic.TcCoe Cert.Ret Cert.Outp

theorem rotE_congr {z cs sn z' cs' sn' : ℕ → EReal} {n : ℕ} (hn : n < 1024) (hz : ∀ k, k < 1024 → z k = z' k) (hc : ∀ l, l < 128 → cs l = cs' l)
    (hs : ∀ l, l < 128 → sn l = sn' l) : rotE z cs sn n = rotE z' cs' sn' n := by
  unfold rotE
  rw [hz n hn, hz (128 * (n / 128) + (n + 64) % 128) (by omega), hc _ (Nat.mod_lt _ (by omega)), hs _ (Nat.mod_lt _ (by omega))]

/-- One value of the projection at the first block of columns. -/
def headE (u : ℕ → EReal) (w : ℕ → ℕ → EReal) (cs sn : ℕ → EReal) (n : ℕ) : EReal :=
  if n < 1024 then rotE (fun n => dotE u (w n)) cs sn n else dotE u (w n)

theorem headE_congr {u u' : ℕ → EReal} {w w' : ℕ → ℕ → EReal} {cs sn cs' sn' : ℕ → EReal} {n : ℕ} (hn : n < 1792) (hu : ∀ k, k < 1024 → u k = u' k)
    (hw : ∀ n k, n < 1792 → k < 1024 → w n k = w' n k) (hc : ∀ l, l < 128 → cs l = cs' l) (hs : ∀ l, l < 128 → sn l = sn' l) :
    headE u w cs sn n = headE u' w' cs' sn' n := by
  unfold headE
  by_cases h : n < 1024
  · rw [if_pos h, if_pos h]
    exact rotE_congr h (fun k hk => dotE_congr hu fun j hj => hw k j (by omega) hj) hc hs
  · rw [if_neg h, if_neg h]
    exact dotE_congr hu fun j hj => hw n j hn hj

section Point

variable (arg2 : Memref sig .tc .vmem S2048x1024 .f32) (harg2 : arg2.IsWhole) (arg3 : Memref sig .tc .vmem S1x1024 .f32) (harg3 : arg3.IsWhole)
  (arg4 : Memref sig .tc .vmem S1792x1024 .bf16) (harg4 : arg4.IsWhole)
  (arg6 : Memref sig .tc .vmem S16x1024 .f32) (harg6 : arg6.IsWhole) (arg7 : Memref sig .tc .vmem S1x16 .f32) (harg7 : arg7.IsWhole)
  (arg8 : Memref sig .tc .vmem S2048x128 .f32) (harg8 : arg8.IsWhole) (arg9 : Memref sig .tc .vmem S2048x128 .f32) (harg9 : arg9.IsWhole)
  (arg13 : Memref sig .tc .vmem S2048x1024 .bf16) (harg13 : arg13.IsWhole) (arg14 : Memref sig .tc .vmem S16x2048 .f32) (harg14 : arg14.IsWhole)
  (x0 : Vec Ideal S2048x1024 .f32) (x1 : Vec Ideal S1x1024 .f32) (x2 : Vec Ideal S1792x1024 .bf16) (x4 : Vec Ideal S16x1024 .f32)
  (x5 : Vec Ideal S1x16 .f32) (x6 : Vec Ideal S2048x128 .f32) (x7 : Vec Ideal S2048x128 .f32) (xs : Vec Ideal S2048x1024 .bf16)

/-! ## The tiles -/

theorem idxU (r : Fin 4) (p : Fin 512) (k : Fin 1024) :
    (Rect.unit (s := S2048x1024) ![512 * r.val, 0] S512x1024.size (inbU r)).toLoadRect.idx (ix2 p k) = ix2 ⟨512 * r + p, by omega⟩ k := by
  funext a
  fin_cases a <;> refine Fin.ext ?_
  · show 512 * r.val + 1 * p.val = _; rw [one_mul]; rfl
  · show 0 + 1 * k.val = _; rw [one_mul, zero_add]; rfl

theorem idxT (r : Fin 4) (p : Fin 512) (l : Fin 128) :
    (Rect.unit (s := S2048x128) ![512 * r.val, 0] S512x128.size (inbT r)).toLoadRect.idx (ix2 p l) = ix2 ⟨512 * r + p, by omega⟩ l := by
  funext a
  fin_cases a <;> refine Fin.ext ?_
  · show 512 * r.val + 1 * p.val = _; rw [one_mul]; rfl
  · show 0 + 1 * l.val = _; rw [one_mul, zero_add]; rfl

theorem idxL (n : Fin 16) (h : Fin 16) (l : Fin 128) :
    (Rect.unit (s := S16x2048) ![0, 128 * n.val] S16x128.size (inbL n)).toLoadRect.idx (ix2 h l) = ix2 h ⟨128 * n + l, by omega⟩ := by
  funext a
  fin_cases a <;> refine Fin.ext ?_
  · show 0 + 1 * h.val = _; rw [one_mul, zero_add]; rfl
  · show 128 * n.val + 1 * l.val = _; rw [one_mul]; rfl

theorem idxAll {a b : ℕ} (inb : ∀ x, (![0, 0] : Fin 2 → ℕ) x + (⟨2, ![a, b]⟩ : Shape).size x ≤ (⟨2, ![a, b]⟩ : Shape).size x) (i : Fin a) (j : Fin b) :
    (Rect.unit (s := ⟨2, ![a, b]⟩) ![0, 0] (⟨2, ![a, b]⟩ : Shape).size inb).toLoadRect.idx (ix2 i j) = ix2 i j := by
  funext x
  fin_cases x <;> refine Fin.ext ?_
  · show 0 + 1 * i.val = _; rw [one_mul, zero_add]; rfl
  · show 0 + 1 * j.val = _; rw [one_mul, zero_add]; rfl

theorem normTile_apply (r : Fin 4) (p : Fin 512) (k : Fin 1024) :
    normTile (F := Ideal) arg2 harg2 arg3 harg3 x0 x1 r (ix2 p k) = rmsE (at2 x0 (512 * r + p)) (at2 x1 0) k := by
  unfold normTile
  rw [pay14_apply]
  refine rmsE_congr k.isLt (fun j hj => ?_) fun j hj => ?_
  · refine (at2_ix _ p ⟨j, hj⟩).symm.trans ?_
    rw [View.readAt_apply, idxU, harg2.read_unread, at2_ix x0]
  · refine (at2_ix _ (0 : Fin 1) ⟨j, hj⟩).symm.trans ?_
    rw [View.readAt_apply, idxAll, harg3.read_unread, at2_ix x1]
    rfl

/-- What the scratch's stores write. -/
def normAll : S2048x1024.Idx → Elt Ideal .bf16 := fun y => (show Elt Ideal .bf16 from rmsE (at2 x0 (y 0).val) (at2 x1 0) (y 1).val)

theorem normPiece_emb (r : Fin 4) (x : (normPiece (F := Ideal) arg2 harg2 arg3 harg3 x0 x1 r).1.shape.Idx) :
    (normPiece (F := Ideal) arg2 harg2 arg3 harg3 x0 x1 r).2 x = normAll x0 x1 ((normPiece (F := Ideal) arg2 harg2 arg3 harg3 x0 x1 r).1.emb x) := by
  obtain ⟨p, k, rfl⟩ : ∃ (p : Fin 512) (k : Fin 1024), x = ix2 p k := ⟨x 0, x 1, by funext a; fin_cases a <;> rfl⟩
  refine (normTile_apply arg2 harg2 arg3 harg3 x0 x1 r p k).trans ?_
  show _ = rmsE (at2 x0 (512 * r.val + 1 * p.val)) (at2 x1 0) (0 + 1 * k.val)
  rw [one_mul, one_mul, zero_add]

theorem normPieces_emb (n : ℕ) (hn : n ≤ 4) : ∀ q ∈ normPieces (F := Ideal) arg2 harg2 arg3 harg3 x0 x1 n hn, ∀ x, q.2 x = normAll x0 x1 (q.1.emb x) := by
  induction n with
  | zero => exact fun q hq => absurd hq List.not_mem_nil
  | succ n ih =>
    intro q hq
    rcases List.mem_cons.mp hq with rfl | hq
    · exact normPiece_emb arg2 harg2 arg3 harg3 x0 x1 ⟨n, hn⟩
    · exact ih _ q hq

theorem normPieces_mem (n : ℕ) (hn : n ≤ 4) (r : Fin 4) (hr : r.val < n) : normPiece (F := Ideal) arg2 harg2 arg3 harg3 x0 x1 r ∈ normPieces arg2 harg2 arg3 harg3 x0 x1 n hn := by
  induction n with
  | zero => omega
  | succ n ih =>
    by_cases h : r.val = n
    · have e : r = ⟨n, hn⟩ := Fin.ext h
      rw [e]
      exact List.mem_cons_self
    · exact List.mem_cons_of_mem _ (ih (by omega) (by omega))

theorem norm_set (r : Fin 4) (p : Fin 2048) (k : Fin 1024) (h : p.val / 512 = r.val) : ix2 p k ∈ (normPiece (F := Ideal) arg2 harg2 arg3 harg3 x0 x1 r).1.set := by
  have hp := p.isLt
  have hk := k.isLt
  refine (Rect.mem_set_unit (inb := inbU r)).mpr fun a => ?_
  fin_cases a
  · show 512 * r.val ≤ p.val ∧ p.val < 512 * r.val + 512
    omega
  · show 0 ≤ k.val ∧ k.val < 0 + 1024
    omega

/-- The scratch after the first `n` tiles, at the rows they cover. -/
theorem norm_read (v : View sig .tc .vmem S2048x1024 .bf16) (n : ℕ) (hn : n ≤ 4) (p : Fin 2048) (k : Fin 1024) (h : p.val / 512 < n) :
    v.read (Elt Ideal) (v.writes (Elt Ideal) v.junk (normPieces (F := Ideal) arg2 harg2 arg3 harg3 x0 x1 n hn)) (ix2 p k) = rmsE (at2 x0 p) (at2 x1 0) k :=
  View.read_writes_apply_of_pieces (Val := Elt Ideal) v _ (normAll x0 x1) _ (normPieces_emb arg2 harg2 arg3 harg3 x0 x1 n hn) (ix2 p k)
    ⟨_, normPieces_mem arg2 harg2 arg3 harg3 x0 x1 n hn ⟨p.val / 512, by omega⟩ h, norm_set arg2 harg2 arg3 harg3 x0 x1 _ p k rfl⟩

theorem normRead_apply (r : Fin 4) (p : Fin 512) (k : Fin 1024) :
    normRead (F := Ideal) arg2 harg2 arg3 harg3 arg13 x0 x1 r (ix2 p k) = rmsE (at2 x0 (512 * r + p)) (at2 x1 0) k := by
  unfold normRead View.readCov
  rw [View.readAt_apply, idxU, norm_read arg2 harg2 arg3 harg3 x0 x1 _ _ _ _ _ (by show (512 * r.val + p.val) / 512 < r.val + 1; omega)]

theorem weights_apply (n : Fin 1792) (k : Fin 1024) : weights (F := Ideal) arg4 harg4 x2 (ix2 n k) = x2 (ix2 n k) := by
  unfold weights
  rw [View.readAt_apply, idxAll, harg4.read_unread]

/-! ## The projection's block -/

theorem projPiece_apply (r : Fin 4) (p : Fin 512) (n : Fin 1792) :
    (projPiece (F := Ideal) arg2 harg2 arg3 harg3 arg4 harg4 arg8 harg8 arg9 harg9 arg13 x0 x1 x2 x6 x7 r).2 (ix2 p n)
      = headE (rmsE (at2 x0 (512 * r + p)) (at2 x1 0)) (at2 x2) (at2 x6 (512 * r + p)) (at2 x7 (512 * r + p)) n := by
  refine (pay16_apply _ _ _ _ p n).trans (headE_congr n.isLt ?_ ?_ ?_ ?_)
  · exact fun k hk => (at2_ix _ p ⟨k, hk⟩).symm.trans (normRead_apply arg2 harg2 arg3 harg3 arg13 x0 x1 r p ⟨k, hk⟩)
  · intro n k hn hk
    refine (at2_ix _ ⟨n, hn⟩ ⟨k, hk⟩).symm.trans (Eq.trans ?_ ((weights_apply arg4 harg4 x2 ⟨n, hn⟩ ⟨k, hk⟩).trans (at2_ix x2 ⟨n, hn⟩ ⟨k, hk⟩)))
    unfold k0_pay13
    generalize weights (F := Ideal) arg4 harg4 x2 = w
    pointwise
  · intro l hl
    refine (at2_ix _ p ⟨l, hl⟩).symm.trans ?_
    rw [View.readAt_apply, idxT, harg8.read_unread, at2_ix x6]
  · intro l hl
    refine (at2_ix _ p ⟨l, hl⟩).symm.trans ?_
    rw [View.readAt_apply, idxT, harg9.read_unread, at2_ix x7]

theorem plainPiece_apply (r : Fin 4) (p : Fin 512) (n : Fin 1792) :
    (plainPiece (F := Ideal) arg4 harg4 arg13 harg13 x2 xs r).2 (ix2 p n) = dotE (at2 xs (512 * r + p)) (at2 x2 n) := by
  refine (pay8_apply _ _ p n).trans (dotE_congr ?_ ?_)
  · intro k hk
    refine (at2_ix _ p ⟨k, hk⟩).symm.trans ?_
    rw [View.readAt_apply, idxU, harg13.read_unread, at2_ix xs]
  · exact fun k hk => (at2_ix _ n ⟨k, hk⟩).symm.trans ((weights_apply arg4 harg4 x2 n ⟨k, hk⟩).trans (at2_ix x2 n ⟨k, hk⟩))

theorem tile_set (r : Fin 4) (p : Fin 2048) (n : Fin 1792) (h : p.val / 512 = r.val) : ix2 p n ∈ (Rect.unit (s := S2048x1792) ![512 * r.val, 0] S512x1792.size (inbZ r)).set := by
  have hp := p.isLt
  have hn := n.isLt
  refine (Rect.mem_set_unit (inb := inbZ r)).mpr fun a => ?_
  fin_cases a
  · show 512 * r.val ≤ p.val ∧ p.val < 512 * r.val + 512
    omega
  · show 0 ≤ n.val ∧ n.val < 0 + 1792
    omega

/-- The block a point of the first block of columns leaves. -/
theorem proj_read (v : View sig .tc .vmem S2048x1792 .bf16) (p : Fin 2048) (n : Fin 1792) :
    v.read (Elt Ideal) (v.writes (Elt Ideal) v.junk (List.ofFn fun k : Fin 4 =>
        projPiece (F := Ideal) arg2 harg2 arg3 harg3 arg4 harg4 arg8 harg8 arg9 harg9 arg13 x0 x1 x2 x6 x7 ⟨3 - k.val, by omega⟩)) (ix2 p n)
      = headE (rmsE (at2 x0 p) (at2 x1 0)) (at2 x2) (at2 x6 p) (at2 x7 p) n := by
  refine View.read_writes_apply_of_pieces (Val := Elt Ideal) v _
    (fun y : S2048x1792.Idx => (show Elt Ideal .bf16 from headE (rmsE (at2 x0 (y 0).val) (at2 x1 0)) (at2 x2) (at2 x6 (y 0).val) (at2 x7 (y 0).val) (y 1).val))
    _ (fun q hq x => ?_) (ix2 p n) ?_
  · obtain ⟨j, rfl⟩ := List.mem_ofFn.mp hq
    obtain ⟨r, e, rfl⟩ : ∃ (r : Fin 512) (e : Fin 1792), x = ix2 r e := ⟨x 0, x 1, by funext a; fin_cases a <;> rfl⟩
    refine (projPiece_apply arg2 harg2 arg3 harg3 arg4 harg4 arg8 harg8 arg9 harg9 arg13 x0 x1 x2 x6 x7 _ r e).trans ?_
    show _ = headE (rmsE (at2 x0 (512 * (3 - j.val) + 1 * r.val)) (at2 x1 0)) (at2 x2) (at2 x6 (512 * (3 - j.val) + 1 * r.val)) (at2 x7 (512 * (3 - j.val) + 1 * r.val)) (0 + 1 * e.val)
    rw [one_mul, one_mul, zero_add]
  · have hp := p.isLt
    exact ⟨_, List.mem_ofFn.mpr ⟨⟨3 - p.val / 512, by omega⟩, rfl⟩, tile_set _ p n (by show _ = 3 - (3 - p.val / 512); omega)⟩

/-- The block any other point leaves. -/
theorem plain_read (v : View sig .tc .vmem S2048x1792 .bf16) (p : Fin 2048) (n : Fin 1792) :
    v.read (Elt Ideal) (v.writes (Elt Ideal) v.junk (List.ofFn fun k : Fin 4 => plainPiece (F := Ideal) arg4 harg4 arg13 harg13 x2 xs ⟨3 - k.val, by omega⟩)) (ix2 p n)
      = dotE (at2 xs p) (at2 x2 n) := by
  refine View.read_writes_apply_of_pieces (Val := Elt Ideal) v _
    (fun y : S2048x1792.Idx => (show Elt Ideal .bf16 from dotE (at2 xs (y 0).val) (at2 x2 (y 1).val))) _ (fun q hq x => ?_) (ix2 p n) ?_
  · obtain ⟨j, rfl⟩ := List.mem_ofFn.mp hq
    obtain ⟨r, e, rfl⟩ : ∃ (r : Fin 512) (e : Fin 1792), x = ix2 r e := ⟨x 0, x 1, by funext a; fin_cases a <;> rfl⟩
    refine (plainPiece_apply arg4 harg4 arg13 harg13 x2 xs _ r e).trans ?_
    show _ = dotE (at2 xs (512 * (3 - j.val) + 1 * r.val)) (at2 x2 (0 + 1 * e.val))
    rw [one_mul, one_mul, zero_add]
  · have hp := p.isLt
    exact ⟨_, List.mem_ofFn.mpr ⟨⟨3 - p.val / 512, by omega⟩, rfl⟩, tile_set _ p n (by show _ = 3 - (3 - p.val / 512); omega)⟩

/-! ## The log-forgets -/

theorem gatePiece_apply (r : Fin 4) (h : Fin 16) (p : Fin 512) :
    (gatePiece (F := Ideal) arg2 harg2 arg3 harg3 arg6 harg6 arg13 x0 x1 x4 r).2 (ix2 h p) = dotE (rmsE (at2 x0 (512 * r + p)) (at2 x1 0)) (at2 x4 h) := by
  refine (pay15_apply _ _ h p).trans (dotE_congr ?_ ?_)
  · exact fun k hk => (at2_ix _ p ⟨k, hk⟩).symm.trans (normRead_apply arg2 harg2 arg3 harg3 arg13 x0 x1 r p ⟨k, hk⟩)
  · intro k hk
    refine (at2_ix _ h ⟨k, hk⟩).symm.trans ?_
    rw [View.readAt_apply, idxAll, harg6.read_unread, at2_ix x4]

theorem gateRead_apply (n : Fin 16) (h : Fin 16) (l : Fin 128) :
    gateRead (F := Ideal) arg2 harg2 arg3 harg3 arg6 harg6 arg13 arg14 x0 x1 x4 n (ix2 h l) = dotE (rmsE (at2 x0 (128 * n + l)) (at2 x1 0)) (at2 x4 h) := by
  unfold gateRead View.readCov
  rw [View.readAt_apply, idxL]
  refine View.read_writes_apply_of_pieces (Val := Elt Ideal) arg14.view _
    (fun y : S16x2048.Idx => (show Elt Ideal .f32 from dotE (rmsE (at2 x0 (y 1).val) (at2 x1 0)) (at2 x4 (y 0).val))) _ (fun q hq x => ?_) _ ?_
  · obtain ⟨j, rfl⟩ := List.mem_ofFn.mp hq
    obtain ⟨h, p, rfl⟩ : ∃ (h : Fin 16) (p : Fin 512), x = ix2 h p := ⟨x 0, x 1, by funext a; fin_cases a <;> rfl⟩
    refine (gatePiece_apply arg2 harg2 arg3 harg3 arg6 harg6 arg13 x0 x1 x4 _ h p).trans ?_
    show _ = dotE (rmsE (at2 x0 (512 * (3 - j.val) + 1 * p.val)) (at2 x1 0)) (at2 x4 (0 + 1 * h.val))
    rw [one_mul, one_mul, zero_add]
  · have hn := n.isLt
    have hl := l.isLt
    have hh := h.isLt
    refine ⟨_, List.mem_ofFn.mpr ⟨⟨3 - (128 * n.val + l.val) / 512, by omega⟩, rfl⟩, ?_⟩
    refine (Rect.mem_set_unit (inb := inbG _)).mpr fun a => ?_
    fin_cases a
    · show 0 ≤ h.val ∧ h.val < 0 + 16
      omega
    · show 512 * (3 - (3 - (128 * n.val + l.val) / 512)) ≤ 128 * n.val + l.val ∧ 128 * n.val + l.val < 512 * (3 - (3 - (128 * n.val + l.val) / 512)) + 512
      omega

theorem biasRead_apply (h : Fin 16) : biasRead (F := Ideal) arg7 harg7 x5 (ix2 h 0) = x5 (ix2 0 h) := by
  unfold biasRead
  rw [biasOf_apply, View.readAt_apply, idxAll, harg7.read_unread]

/-- One log-forget of the block. -/
def logE (x : ℕ → ℕ → EReal) (g : ℕ → EReal) (w : ℕ → EReal) (b : EReal) (i : ℕ) : EReal := lsE (dotE (rmsE (x i) g) w + b)

theorem blockOf_apply (bf carry : FVec Ideal S16x1 .f32) (lf : FVec Ideal S16x128 .f32) (h : Fin 16) (l : Fin 128) :
    blockOf (F := Ideal) bf carry lf (ix2 h l) = ∑ i ∈ Finset.range (l + 1), lsE (at2 lf h i + bf (ix2 h 0)) + carry (ix2 h 0) := by
  have e : blockOf (F := Ideal) bf carry lf (ix2 h l) = lanesOf (forgetOf bf lf) (ix2 h l) + carry (ix2 h 0) := by
    unfold blockOf
    generalize lanesOf (forgetOf bf lf) = X
    pointwise
  rw [e, lanesOf_apply]
  refine congrArg (· + _) (Finset.sum_congr rfl fun i hi => ?_)
  have hi' : i < 128 := by have := Finset.mem_range.mp hi; omega
  refine (at2_ix _ h ⟨i, hi'⟩).symm.trans ((forgetOf_apply bf lf h ⟨i, hi'⟩).trans ?_)
  rw [at2_ix lf h ⟨i, hi'⟩]

/-- The running sums at block `n`. -/
theorem sumsRaw_apply (n : ℕ) (hn : n < 16) (h : Fin 16) (l : Fin 128) :
    sumsRaw (F := Ideal) arg2 harg2 arg3 harg3 arg6 harg6 arg7 harg7 arg13 arg14 x0 x1 x4 x5 n hn (ix2 h l)
      = ∑ i ∈ Finset.range (128 * n + (l + 1)), logE (at2 x0) (at2 x1 0) (at2 x4 h) (x5 (ix2 0 h)) i := by
  have one : ∀ (l : Fin 128) (n : ℕ) (hn : n < 16) (carry : FVec Ideal S16x1 .f32), carry (ix2 h 0) = ∑ i ∈ Finset.range (128 * n), logE (at2 x0) (at2 x1 0) (at2 x4 h) (x5 (ix2 0 h)) i →
      blockOf (biasRead arg7 harg7 x5) carry (gateRead arg2 harg2 arg3 harg3 arg6 harg6 arg13 arg14 x0 x1 x4 ⟨n, hn⟩) (ix2 h l)
        = ∑ i ∈ Finset.range (128 * n + (l + 1)), logE (at2 x0) (at2 x1 0) (at2 x4 h) (x5 (ix2 0 h)) i := by
    intro l n hn carry hc
    rw [blockOf_apply, hc, Finset.sum_range_add _ (128 * n) (l.val + 1)]
    refine (add_comm _ _).trans (congrArg₂ (fun a b : EReal => a + b) rfl (Finset.sum_congr rfl fun i hi => ?_))
    have hi' : i < 128 := by have := Finset.mem_range.mp hi; omega
    unfold logE
    refine congrArg lsE (congrArg₂ (fun a b : EReal => a + b) ?_ (biasRead_apply arg7 harg7 x5 h))
    exact (at2_ix _ h ⟨i, hi'⟩).symm.trans (gateRead_apply arg2 harg2 arg3 harg3 arg6 harg6 arg13 arg14 x0 x1 x4 ⟨n, hn⟩ h ⟨i, hi'⟩)
  induction n generalizing l with
  | zero =>
    refine one l 0 hn _ ?_
    rw [Nat.mul_zero, Finset.sum_range_zero]
    pointwise [k0_pay41]
  | succ n ih =>
    refine one l (n + 1) hn _ ?_
    rw [carryOf_apply, ih (by omega) 127]
    rfl

theorem pairCast_apply (X : S2x128.Idx → EReal) (h : S2x128.ShapeCasts S1x1x2x128) (j : Fin 2) (l : Fin 128) : shapeCast S1x1x2x128 X h (ix4 0 0 j l) = X (ix2 j l) := by
  pointwise

theorem pairSlice_apply (X : S16x128.Idx → EReal) (p : Fin 8) (j : Fin 2) (l : Fin 128) :
    extractStridedSlice S2x128 ![2 * p.val, 0] X (slicePair p) (ix2 j l) = X (ix2 ⟨2 * p + j, by omega⟩ l) := by
  pointwise

theorem sumPiece_apply (n : Fin 16) (p : Fin 8) (j : Fin 2) (l : Fin 128) :
    (sumPiece (F := Ideal) arg2 harg2 arg3 harg3 arg6 harg6 arg7 harg7 arg13 arg14 x0 x1 x4 x5 n p).2 (ix4 0 0 j l)
      = ∑ i ∈ Finset.range (128 * n + (l + 1)), logE (at2 x0) (at2 x1 0) (at2 x4 (2 * p + j)) (at2 x5 0 (2 * p + j)) i := by
  refine (pairCast_apply _ _ j l).trans ((pairSlice_apply _ p j l).trans ((sumsRaw_apply arg2 harg2 arg3 harg3 arg6 harg6 arg7 harg7 arg13 arg14 x0 x1 x4 x5 n.val n.isLt _ l).trans ?_))
  rw [at2_ix x5]
  rfl

/-- The block's running sums. -/
theorem sum_read (v : View sig .tc .vmem S1x8x2x2048 .f32) (q : Fin 8) (j : Fin 2) (s : Fin 2048) :
    v.read (Elt Ideal) (v.writes (Elt Ideal) v.junk (List.ofFn fun k : Fin 128 =>
        sumPiece (F := Ideal) arg2 harg2 arg3 harg3 arg6 harg6 arg7 harg7 arg13 arg14 x0 x1 x4 x5 ⟨15 - k.val / 8, by omega⟩ ⟨7 - k.val % 8, by omega⟩)) (ix4 0 q j s)
      = ∑ i ∈ Finset.range (s + 1), logE (at2 x0) (at2 x1 0) (at2 x4 (2 * q + j)) (at2 x5 0 (2 * q + j)) i := by
  refine View.read_writes_apply_of_pieces (Val := Elt Ideal) v _
    (fun y : S1x8x2x2048.Idx => (show Elt Ideal .f32 from ∑ i ∈ Finset.range ((y 3).val + 1), logE (at2 x0) (at2 x1 0) (at2 x4 (2 * (y 1).val + (y 2).val)) (at2 x5 0 (2 * (y 1).val + (y 2).val)) i))
    _ (fun pc hq x => ?_) (ix4 0 q j s) ?_
  · obtain ⟨k, rfl⟩ := List.mem_ofFn.mp hq
    obtain ⟨j, l, rfl⟩ : ∃ (j : Fin 2) (l : Fin 128), x = ix4 0 0 j l :=
      ⟨x 2, x 3, by funext a; fin_cases a; exact Subsingleton.elim (α := Fin 1) _ _; exact Subsingleton.elim (α := Fin 1) _ _; rfl; rfl⟩
    refine (sumPiece_apply arg2 harg2 arg3 harg3 arg6 harg6 arg7 harg7 arg13 arg14 x0 x1 x4 x5 _ _ j l).trans ?_
    show _ = ∑ i ∈ Finset.range (128 * (15 - k.val / 8) + 1 * l.val + 1), logE (at2 x0) (at2 x1 0) (at2 x4 (2 * (7 - k.val % 8 + 1 * 0) + (0 + 1 * j.val))) (at2 x5 0 (2 * (7 - k.val % 8 + 1 * 0) + (0 + 1 * j.val))) i
    simp only [one_mul, zero_add, add_zero, add_assoc]
  · have hq := q.isLt
    have hj := j.isLt
    have hs := s.isLt
    refine ⟨_, List.mem_ofFn.mpr ⟨⟨8 * (15 - s.val / 128) + (7 - q.val), by omega⟩, rfl⟩, ?_⟩
    refine (Rect.mem_set_unit (inb := inbC _ _)).mpr fun a => ?_
    fin_cases a
    · show 0 ≤ 0 ∧ 0 < 0 + 1
      omega
    · show 7 - (8 * (15 - s.val / 128) + (7 - q.val)) % 8 ≤ q.val ∧ q.val < 7 - (8 * (15 - s.val / 128) + (7 - q.val)) % 8 + 1
      omega
    · show 0 ≤ j.val ∧ j.val < 0 + 2
      omega
    · show 128 * (15 - (8 * (15 - s.val / 128) + (7 - q.val)) / 8) ≤ s.val ∧ s.val < 128 * (15 - (8 * (15 - s.val / 128) + (7 - q.val)) / 8) + 128
      omega

end Point

end Cert.Inp

end
-- ==== Proof.InVal.lean ====
module

public import proofs.«01_k».proof.Proof.InPoint

/-! # The input projection's results

The two results as functions of the arguments, and the arrays the host prepares: the columns' scales, the scaled weights, and the
tables of the rotation. -/

@[expose] public section

set_option maxRecDepth 16384

noncomputable section

namespace Cert.Inp

open Cert.Kernel3Ideal Cert.Kernel3Ideal.Gen
open Idealize.ShloMosaic Idealize.ShloMosaic.TcCoe Cert.Ret Cert.Outp

/-! ## The results -/

/-- The scale of a column of the weights. -/
def scaleE (n : ℕ) : EReal :=
  if 3072 ≤ n ∧ n < 3072 + 1024 then Ideal.ofBits .f32 0x3E38AA3B#32 else if 512 ≤ n ∧ n < 512 + 512 then Ideal.ofBits .f32 0x3DB504F3#32 else Ideal.ofBits .f32 0x3F800000#32

/-- The rotation's two tables of 128 lanes, from the cosines and sines of 64 frequencies. -/
def cosE (cs : ℕ → EReal) (l : ℕ) : EReal := if l < 64 then cs l else cs (l - 64)
def sinE (sn : ℕ → EReal) (l : ℕ) : EReal := if l < 64 then -sn l else sn (l - 64)

/-- The angles of the rotation, by position and frequency. -/
def angV : FVec Ideal S2048x64 .f32 :=
  mulf (broadcastInDim S2048x64 ![0, 1] bcast_S2048x1_S2048x64_0_1 (broadcastInDim S2048x1 ![0] bcast_S2048_S2048x1_0
      (addf (sitofp .f32 (iotaInDim S2048 32 0)) (broadcastInDim S2048 ![] bcast_S_S2048 (constant S_ .f32 0x41800000#32)))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

/-- Their cosines and sines. -/
def cosV : FVec Ideal S2048x64 .f32 := Host.cos angV
def sinV : FVec Ideal S2048x64 .f32 := Host.sin angV

/-- A value of the projection: sequence `b`, position `s`, column `n`. -/
def zE (X : ℕ → ℕ → ℕ → EReal) (g : ℕ → EReal) (W : ℕ → ℕ → EReal) (b s n : ℕ) : EReal :=
  headE (rmsE (X b s) g) (fun n k => W k n * scaleE n) (cosE (at2 cosV s)) (sinE (at2 sinV s)) n

/-- A log-forget summed over the positions up to `s`, of head `h`. -/
def cE (X : ℕ → ℕ → ℕ → EReal) (g : ℕ → EReal) (W : ℕ → ℕ → EReal) (f : ℕ → EReal) (b h s : ℕ) : EReal :=
  ∑ i ∈ Finset.range (s + 1), logE (X b) g (fun k => W k (7168 + h)) (f h) i

/-! ## The host's arrays -/

/-- The columns' scales, as the host sets them. -/
def colV : FVec Ideal S7168x1 .f32 :=
  Host.scatter scatter_S7168x1_S1_S1024x1_01_n_0_0 (fun _ b => b)
    (Host.scatter scatter_S7168x1_S1_S512x1_01_n_0_0 (fun _ b => b) (broadcastInDim S7168x1 ![] bcast_S_S7168x1 (constant S_ .f32 0x3F800000#32))
      (broadcastInDim S1 ![] bcast_S_S1 (constantI S_ 32 512#32)) (broadcastInDim S512x1 ![] bcast_S_S512x1 (constant S_ .f32 0x3DB504F3#32)))
    (broadcastInDim S1 ![] bcast_S_S1 (constantI S_ 32 3072#32)) (broadcastInDim S1024x1 ![] bcast_S_S1024x1 (constant S_ .f32 0x3E38AA3B#32))

theorem colV_apply (n : Fin 7168) : colV (ix2 n 0) = scaleE n := by
  have hv1 : ∀ j, broadcastInDim S512x1 ![] bcast_S_S512x1 (constant (F := Ideal) S_ .f32 0x3DB504F3#32) j = Ideal.ofBits .f32 0x3DB504F3#32 := fun _ => rfl
  have hv2 : ∀ j, broadcastInDim S1024x1 ![] bcast_S_S1024x1 (constant (F := Ideal) S_ .f32 0x3E38AA3B#32) j = Ideal.ofBits .f32 0x3E38AA3B#32 := fun _ => rfl
  have hi1 : (broadcastInDim S1 ![] bcast_S_S1 (constantI S_ 32 512#32) (ix1 0)).toInt = (512 : ℕ) := by
    show (512#32 : BitVec 32).toInt = _
    decide
  have hi2 : (broadcastInDim S1 ![] bcast_S_S1 (constantI S_ 32 3072#32) (ix1 0)).toInt = (3072 : ℕ) := by
    show (3072#32 : BitVec 32).toInt = _
    decide
  unfold colV scaleE
  have e2 := set_rows (N := 7168) (A := 1024) scatter_S7168x1_S1_S1024x1_01_n_0_0 rfl rfl rfl
    (Host.scatter scatter_S7168x1_S1_S512x1_01_n_0_0 (fun _ b => b) (broadcastInDim S7168x1 ![] bcast_S_S7168x1 (constant (F := Ideal) S_ .f32 0x3F800000#32))
      (broadcastInDim S1 ![] bcast_S_S1 (constantI S_ 32 512#32)) (broadcastInDim S512x1 ![] bcast_S_S512x1 (constant (F := Ideal) S_ .f32 0x3DB504F3#32)))
    _ _ _ hv2 3072 hi2 n
  have e1 := set_rows (N := 7168) (A := 512) scatter_S7168x1_S1_S512x1_01_n_0_0 rfl rfl rfl
    (broadcastInDim S7168x1 ![] bcast_S_S7168x1 (constant (F := Ideal) S_ .f32 0x3F800000#32)) _ _ _ hv1 512 hi1 n
  rw [e1] at e2
  exact e2

/-- The weights by rows: transposed. -/
def rowsV (W : FVec Ideal S1x1024x7184 .f32) : FVec Ideal S7184x1024 .f32 :=
  shapeCast S7184x1024 (transpose S1x7184x1024 [0, 2, 1] W transposes_S1x1024x7184_S1x7184x1024_0_2_1) shapeCasts_S1x7184x1024_S7184x1024

theorem rowsV_apply (W : FVec Ideal S1x1024x7184 .f32) (n : Fin 7184) (k : Fin 1024) : rowsV W (ix2 n k) = at3 W 0 k n := by
  refine Eq.trans ?_ (at3_ix W (0 : Fin 1) k n)
  pointwise [rowsV]

/-- The scaled weights. -/
def scaledV (R : FVec Ideal S7184x1024 .f32) (C : FVec Ideal S7168x1 .f32) : FVec Ideal S7168x1024 .bf16 :=
  truncf .bf16 (mulf (extractStridedSlice S7168x1024 ![0, 0] R slices_S7184x1024_S7168x1024_0_0) (broadcastInDim S7168x1024 ![0, 1] bcast_S7168x1_S7168x1024_0_1 C)) bitsLt_bf16_f32

theorem scaledV_apply (R : FVec Ideal S7184x1024 .f32) (C : FVec Ideal S7168x1 .f32) (n : Fin 7168) (k : Fin 1024) :
    scaledV R C (ix2 n k) = R (ix2 ⟨n, by omega⟩ k) * C (ix2 n 0) := by
  pointwise [scaledV]

/-- Two tables side by side. -/
theorem pair_apply (A B : S2048x64.Idx → EReal) (s : Fin 2048) (l : Fin 128) :
    concatenate S2048x128 1 [⟨S2048x64, A⟩, ⟨S2048x64, B⟩] concatenates_S2048x64_S2048x64_S2048x128_d1 (ix2 s l) = if l.val < 64 then at2 A s l else at2 B s (l - 64) := by
  have hl := l.isLt
  pointwise
  by_cases h : l.val < 64
  · rw [if_pos h]
    exact (dif_pos h).trans (at2_ix A s ⟨l.val, h⟩)
  · rw [if_neg h]
    exact (dif_neg h).trans (at2_ix B s ⟨l.val - 64, by omega⟩)

end Cert.Inp

end
-- ==== Proof.InKer.lean ====
module

public import proofs.«01_k».proof.Proof.InVal

/-! # The input projection's kernel

What its two result arrays hold after the launch: the projection and the log-forgets' running sums. -/

@[expose] public section

set_option maxRecDepth 16384

noncomputable section

namespace Cert.Inp

open Cert.Kernel3Ideal Cert.Kernel3Ideal.Gen
open Idealize.ShloMosaic Idealize.ShloMosaic.TcCoe Cert.Ret Cert.Outp

variable (m : (ℓ : Loc nD τ sig) → Buf (Elt Ideal) ℓ) (c : Dev nD)

/-- The arguments by their indices. -/
def argX : ℕ → ℕ → ℕ → EReal := at3 (m ((c : Thread nD τ).loc main_arg0))
def argG : ℕ → EReal := at2 (m ((c : Thread nD τ).loc main_arg1)) 0
def argW : ℕ → ℕ → EReal := at3 (m ((c : Thread nD τ).loc main_arg2)) 0
def argF : ℕ → EReal := at2 (m ((c : Thread nD τ).loc main_arg3)) 0

/-! ## What the launch reads -/

theorem rowcast_apply {n : ℕ} (X : (⟨2, ![1, n]⟩ : Shape).Idx → EReal) (h : (⟨2, ![1, n]⟩ : Shape).ShapeCasts ⟨1, ![n]⟩) (h' : (⟨1, ![n]⟩ : Shape).ShapeCasts ⟨2, ![1, n]⟩) (k : Fin n) :
    shapeCast ⟨2, ![1, n]⟩ (shapeCast ⟨1, ![n]⟩ X h) h' (ix2 0 k) = at2 X 0 k := by
  refine Eq.trans ?_ (at2_ix X (0 : Fin 1) k)
  pointwise

theorem entry_x (r : Fin 16384) (k : Fin 1024) : V m c main_v0 (ix2 r k) = argX m c (r / 2048) (r % 2048) k := by
  have e : V m c main_v0 = shapeCast S16384x1024 (m ((c : Thread nD τ).loc main_arg0)) shapeCasts_S8x2048x1024_S16384x1024 := by
    simp only [V, hostOps0]
    after_results_entrywise []
  rw [e]
  exact Ker.flat_apply _ _ r k

theorem entry_g (k : Fin 1024) : V m c main_v38 (ix2 0 k) = argG m c k := by
  have e : V m c main_v38 = shapeCast S1x1024 (shapeCast S1024 (m ((c : Thread nD τ).loc main_arg1)) shapeCasts_S1x1024_S1024) shapeCasts_S1024_S1x1024 := by
    simp only [V, hostOps0]
    after_results_entrywise []
  rw [e]
  exact rowcast_apply _ _ _ k

theorem entry_f (k : Fin 16) : V m c main_v40 (ix2 0 k) = argF m c k := by
  have e : V m c main_v40 = shapeCast S1x16 (shapeCast S16 (m ((c : Thread nD τ).loc main_arg3)) shapeCasts_S1x16_S16) shapeCasts_S16_S1x16 := by
    simp only [V, hostOps0]
    after_results_entrywise []
  rw [e]
  exact rowcast_apply _ _ _ k

theorem entry_rows (n : Fin 7184) (k : Fin 1024) : V m c main_v9 (ix2 n k) = argW m c k n := by
  have e : V m c main_v9 = rowsV (m ((c : Thread nD τ).loc main_arg2)) := by
    simp only [V, hostOps0]
    after_results_entrywise [rowsV]
  rw [e]
  exact rowsV_apply _ n k

theorem entry_w (n : Fin 7168) (k : Fin 1024) : V m c main_v13 (ix2 n k) = argW m c k n * scaleE n := by
  have e : V m c main_v13 = scaledV (rowsV (m ((c : Thread nD τ).loc main_arg2))) colV := by
    simp only [V, hostOps0]
    after_results_entrywise [rowsV, scaledV, colV]
  rw [e, scaledV_apply, rowsV_apply, colV_apply]
  rfl

theorem entry_cos (s : Fin 2048) (l : Fin 128) : V m c main_v34 (ix2 s l) = cosE (at2 cosV s) l := by
  have e : V m c main_v34 = concatenate S2048x128 1 [⟨S2048x64, cosV⟩, ⟨S2048x64, cosV⟩] concatenates_S2048x64_S2048x64_S2048x128_d1 := by
    simp only [V, hostOps0]
    after_results_entrywise [cosV, angV]
  rw [e]
  exact pair_apply _ _ s l

theorem negSin_at (s j : ℕ) : at2 (Host.negf sinV) s j = -at2 sinV s j := by
  unfold at2
  by_cases h : s < 2048 ∧ j < 64
  · rw [dif_pos h, dif_pos h]
    rfl
  · rw [dif_neg h, dif_neg h, neg_zero]

theorem entry_sin (s : Fin 2048) (l : Fin 128) : V m c main_v36 (ix2 s l) = sinE (at2 sinV s) l := by
  have e : V m c main_v36 = concatenate S2048x128 1 [⟨S2048x64, Host.negf sinV⟩, ⟨S2048x64, sinV⟩] concatenates_S2048x64_S2048x64_S2048x128_d1 := by
    simp only [V, hostOps0]
    after_results_entrywise [sinV, angV]
  rw [e, pair_apply, negSin_at]
  rfl

theorem idx : ∀ t : Fin cfg0.N, win0_0.index t = ![t.val / 4, 0] ∧ win0_1.index t = ![0, 0] ∧ win0_2.index t = ![t.val % 4, 0] ∧ win0_4.index t = ![448, 0]
    ∧ win0_5.index t = ![0, 0] ∧ win0_6.index t = ![0, 0] ∧ win0_7.index t = ![0, 0] ∧ win0_8.index t = ![t.val / 4, t.val % 4] ∧ win0_9.index t = ![t.val / 4, 0, 0, 0] :=
  (by decide +kernel : ∀ t : Fin grid0.N, _)

theorem t_lt (t : Fin cfg0.N) : t.val < 32 := lt_of_lt_of_eq t.isLt N_0

theorem blk0 (t : Fin cfg0.N) (p : Fin 2048) (k : Fin 1024) : iblk m c 0 t (ix2 p k) = V m c main_v0 (ix2 ⟨2048 * (t.val / 4) + p, by have := t_lt t; omega⟩ k) := by
  blk_point [iblk, idx t]

theorem blk1 (t : Fin cfg0.N) (k : Fin 1024) : iblk m c 1 t (ix2 0 k) = V m c main_v38 (ix2 0 k) := by
  blk_point [iblk, idx t]

theorem blk2 (t : Fin cfg0.N) (n : Fin 1792) (k : Fin 1024) : iblk m c 2 t (ix2 n k) = V m c main_v13 (ix2 ⟨1792 * (t.val % 4) + n, by omega⟩ k) := by
  blk_point [iblk, idx t]

theorem blk4 (t : Fin cfg0.N) (h : Fin 16) (k : Fin 1024) : iblk m c 4 t (ix2 h k) = V m c main_v9 (ix2 ⟨7168 + h, by omega⟩ k) := by
  blk_point [iblk, idx t]

theorem blk5 (t : Fin cfg0.N) (k : Fin 16) : iblk m c 5 t (ix2 0 k) = V m c main_v40 (ix2 0 k) := by
  blk_point [iblk, idx t]

theorem blk6 (t : Fin cfg0.N) (s : Fin 2048) (l : Fin 128) : iblk m c 6 t (ix2 s l) = V m c main_v34 (ix2 s l) := by
  blk_point [iblk, idx t]

theorem blk7 (t : Fin cfg0.N) (s : Fin 2048) (l : Fin 128) : iblk m c 7 t (ix2 s l) = V m c main_v36 (ix2 s l) := by
  blk_point [iblk, idx t]

/-! The staged blocks by their indices. -/

theorem in0 (t : Fin cfg0.N) (p k : ℕ) (hp : p < 2048) (hk : k < 1024) : at2 (iblk m c 0 t) p k = argX m c (t.val / 4) p k := by
  have ht := t_lt t
  refine (at2_ix _ ⟨p, hp⟩ ⟨k, hk⟩).symm.trans ((blk0 m c t ⟨p, hp⟩ ⟨k, hk⟩).trans ((entry_x m c _ ⟨k, hk⟩).trans ?_))
  show argX m c ((2048 * (t.val / 4) + p) / 2048) ((2048 * (t.val / 4) + p) % 2048) k = _
  rw [show (2048 * (t.val / 4) + p) / 2048 = t.val / 4 by omega, show (2048 * (t.val / 4) + p) % 2048 = p by omega]

theorem in1 (t : Fin cfg0.N) (k : ℕ) (hk : k < 1024) : at2 (iblk m c 1 t) 0 k = argG m c k :=
  (at2_ix _ (0 : Fin 1) ⟨k, hk⟩).symm.trans ((blk1 m c t ⟨k, hk⟩).trans (entry_g m c ⟨k, hk⟩))

theorem in2 (t : Fin cfg0.N) (n k : ℕ) (hn : n < 1792) (hk : k < 1024) :
    at2 (iblk m c 2 t) n k = argW m c k (1792 * (t.val % 4) + n) * scaleE (1792 * (t.val % 4) + n) :=
  (at2_ix _ ⟨n, hn⟩ ⟨k, hk⟩).symm.trans ((blk2 m c t ⟨n, hn⟩ ⟨k, hk⟩).trans (entry_w m c _ ⟨k, hk⟩))

theorem in4 (t : Fin cfg0.N) (h k : ℕ) (hh : h < 16) (hk : k < 1024) : at2 (iblk m c 4 t) h k = argW m c k (7168 + h) :=
  (at2_ix _ ⟨h, hh⟩ ⟨k, hk⟩).symm.trans ((blk4 m c t ⟨h, hh⟩ ⟨k, hk⟩).trans (entry_rows m c _ ⟨k, hk⟩))

theorem in5 (t : Fin cfg0.N) (k : ℕ) (hk : k < 16) : at2 (iblk m c 5 t) 0 k = argF m c k :=
  (at2_ix _ (0 : Fin 1) ⟨k, hk⟩).symm.trans ((blk5 m c t ⟨k, hk⟩).trans (entry_f m c ⟨k, hk⟩))

theorem in6 (t : Fin cfg0.N) (s l : ℕ) (hs : s < 2048) (hl : l < 128) : at2 (iblk m c 6 t) s l = cosE (at2 cosV s) l :=
  (at2_ix _ ⟨s, hs⟩ ⟨l, hl⟩).symm.trans ((blk6 m c t ⟨s, hs⟩ ⟨l, hl⟩).trans (entry_cos m c ⟨s, hs⟩ ⟨l, hl⟩))

theorem in7 (t : Fin cfg0.N) (s l : ℕ) (hs : s < 2048) (hl : l < 128) : at2 (iblk m c 7 t) s l = sinE (at2 sinV s) l :=
  (at2_ix _ ⟨s, hs⟩ ⟨l, hl⟩).symm.trans ((blk7 m c t ⟨s, hs⟩ ⟨l, hl⟩).trans (entry_sin m c ⟨s, hs⟩ ⟨l, hl⟩))

/-! ## What the points leave -/

/-- The normed rows of a block of positions. -/
theorem u_apply (q : Fin 8) (p : Fin 2048) (k : Fin 1024) : uAt m c q (ix2 p k) = rmsE (argX m c q p) (argG m c) k := by
  unfold uAt storesA
  rw [norm_pieces, norm_read _ _ _ _ _ _ _ 4 _ p k (by omega)]
  refine rmsE_congr k.isLt (fun j hj => (in0 m c (base q) p j p.isLt hj).trans ?_) fun j hj => in1 m c _ j hj
  rw [show (base q).val / 4 = q.val by dsimp only [base]; omega]

/-- The projection's block at a point. -/
theorem z_apply (t : Fin cfg0.N) (p : Fin 2048) (n : Fin 1792) : zAt m c t (ix2 p n) = zE (argX m c) (argG m c) (argW m c) (t.val / 4) p (1792 * (t.val % 4) + n) := by
  unfold zAt zE
  by_cases h : t.val % 4 = 0
  · rw [dif_pos h]
    unfold storesA
    rw [proj_pieces, proj_read, h, Nat.mul_zero, Nat.zero_add]
    refine headE_congr n.isLt (fun k hk => rmsE_congr hk (fun j hj => in0 m c t p j p.isLt hj) fun j hj => in1 m c t j hj) (fun n k hn hk => ?_)
      (fun l hl => in6 m c t p l p.isLt hl) fun l hl => in7 m c t p l p.isLt hl
    have e := in2 m c t n k hn hk
    rw [h, Nat.mul_zero, Nat.zero_add] at e
    exact e
  · rw [dif_neg h]
    unfold storesB
    rw [plain_pieces, plain_read]
    unfold headE
    rw [if_neg (by omega)]
    exact dotE_congr (fun k hk => (at2_ix _ p ⟨k, hk⟩).symm.trans (u_apply m c (rowq t) p ⟨k, hk⟩)) fun k hk => in2 m c t n k n.isLt hk

/-- The log-forgets' block of a block of positions. -/
theorem c_apply (q : Fin 8) (r : Fin 8) (j : Fin 2) (s : Fin 2048) : cAt m c q (ix4 0 r j s) = cE (argX m c) (argG m c) (argW m c) (argF m c) q (2 * r + j) s := by
  unfold cAt cE storesA
  rw [sum_pieces, sum_read]
  refine Finset.sum_congr rfl fun i hi => ?_
  have hi' : i < 2048 := by have := Finset.mem_range.mp hi; omega
  have hb : (base q).val / 4 = q.val := by dsimp only [base]; omega
  unfold logE
  rw [in5 m c _ _ (by omega)]
  refine congrArg (fun v => lsE (v + _)) (dotE_congr (fun k hk => rmsE_congr hk (fun k hk => (in0 m c _ i k hi' hk).trans ?_) fun j hj => in1 m c _ j hj)
    fun k hk => in4 m c _ _ k (by omega) hk)
  rw [hb]

/-! ## The result arrays -/

/-- The projection: the rows of all sequences one after another. -/
def zFinal : FVec Ideal S16384x7168 .bf16 := fun y => zE (argX m c) (argG m c) (argW m c) ((y 0).val / 2048) ((y 0).val % 2048) (y 1).val

/-- The log-forgets' running sums. -/
def cFinal : FVec Ideal S8x8x2x2048 .f32 := fun y => cE (argX m c) (argG m c) (argW m c) (argF m c) (y 0).val (2 * (y 1).val + (y 2).val) (y 3).val

theorem z_point (t : Fin cfg0.N) (p : Fin 2048) (n : Fin 1792) :
    zAt m c t (ix2 p n) = zFinal m c (ix2 ⟨2048 * (t.val / 4) + p, by have := t_lt t; omega⟩ ⟨1792 * (t.val % 4) + n, by omega⟩) := by
  rw [z_apply]
  show _ = zE (argX m c) (argG m c) (argW m c) ((2048 * (t.val / 4) + p.val) / 2048) ((2048 * (t.val / 4) + p.val) % 2048) (1792 * (t.val % 4) + n.val)
  rw [show (2048 * (t.val / 4) + p.val) / 2048 = t.val / 4 by omega, show (2048 * (t.val / 4) + p.val) % 2048 = p.val by omega]

theorem z_arr : (dats m 0 c).arrAt 8 cfg0.N = zFinal m c := by
  refine (dats m 0 c).arrAt_eq_of_covers 8 _ (by decide +kernel) fun t _ y => ?_
  blk_simp
  rw [after_8]
  obtain ⟨p, n, rfl⟩ : ∃ (p : Fin 2048) (n : Fin 1792), y = ix2 p n := ⟨y 0, y 1, by funext a; fin_cases a <;> rfl⟩
  refine (z_point m c t p n).trans ?_
  unfold zFinal
  blk_simp [idx t]
  rw [Nat.mul_comm (t.val / 4) 2048, Nat.mul_comm (t.val % 4) 1792]

theorem c_arr : (dats m 0 c).arrAt 9 cfg0.N = cFinal m c := by
  refine (dats m 0 c).arrAt_eq_of_covers 9 _ (by decide +kernel) fun t _ y => ?_
  blk_simp
  rw [after_9]
  obtain ⟨r, j, s, rfl⟩ : ∃ (r : Fin 8) (j : Fin 2) (s : Fin 2048), y = ix4 0 r j s :=
    ⟨y 1, y 2, y 3, by funext a; fin_cases a; exact Subsingleton.elim (α := Fin 1) _ _; rfl; rfl; rfl⟩
  refine (c_apply m c (rowq t) r j s).trans ?_
  unfold cFinal
  blk_simp [idx t]
  rfl

end Cert.Inp

end
-- ==== Proof.InRef.lean ====
module

public import proofs.«01_k».proof.Proof.InVal
public import proofs.«01_k».proof.Proof.Gen.Reference3Ideal.Run
public import Idealize.ShloMosaic.Lib.Quiescent

/-! # The input projection's reference

The reference projects every row's norm, rotates the first 1024 columns in halves of 64, scales two groups of columns after the
product, and sums the log-forgets along the positions. Entry by entry these are the kernel's values: a scale that is a real number
moves into the product, and the logarithm of a sigmoid has two forms. -/

@[expose] public section

set_option maxRecDepth 16384

noncomputable section

namespace Cert.Inp.Ref

open Cert.Reference3Ideal Cert.Reference3Ideal.Gen
open Idealize.ShloMosaic Idealize.ShloMosaic.TcCoe Idealize.SL.Sem Cert.Ret Cert.Outp Cert.Inp

/-! ## The projection -/

/-- The products of the normed rows and the weights. -/
def projV (X : FVec Ideal S8x2048x1024 .f32) (G : FVec Ideal S1x1024 .f32) (W : FVec Ideal S1x1024x7184 .f32) : FVec Ideal S8x2048x7184 .f32 :=
  Host.dotGeneral dot_S8x2048x1024_S1024x7184_S8x2048x7184_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ G shapeCasts_S1x1024_S1024)))) (shapeCast _ W shapeCasts_S1x1024x7184_S1024x7184)

theorem projV_apply (X : FVec Ideal S8x2048x1024 .f32) (G : FVec Ideal S1x1024 .f32) (W : FVec Ideal S1x1024x7184 .f32) (b : Fin 8) (p : Fin 2048) (n : Fin 7184) :
    projV X G W (ix3 b p n) = dotE (rmsE (at3 X b p) (at2 G 0)) (fun k => at3 W 0 k n) := by
  unfold dotE rmsE
  pointwise [projV]
  simp only [at3_ix, at2_ix]
  rfl

/-- The halves of 64 columns rotated against each other, in 4 groups of 128 columns. -/
def rotV (S : FVec Ideal S8x2048x512 .f32) (C N : FVec Ideal S2048x64 .f32) : FVec Ideal S8x2048x4x128 .f32 :=
  concatenate S8x2048x4x128 3 [⟨S8x2048x4x64, (subf (mulf (extractStridedSlice S8x2048x4x64 ![0, 0, 0, 0] (shapeCast _ S shapeCasts_S8x2048x512_S8x2048x4x128) slices_S8x2048x4x128_S8x2048x4x64_0_0_0_0) (broadcastInDim S8x2048x4x64 ![0, 1, 2, 3] bcast_S1x2048x1x64_S8x2048x4x64_0_1_2_3 (broadcastInDim S1x2048x1x64 ![1, 3] bcast_S2048x64_S1x2048x1x64_1_3 C))) (mulf (extractStridedSlice S8x2048x4x64 ![0, 0, 0, 64] (shapeCast _ S shapeCasts_S8x2048x512_S8x2048x4x128) slices_S8x2048x4x128_S8x2048x4x64_0_0_0_64) (broadcastInDim S8x2048x4x64 ![0, 1, 2, 3] bcast_S1x2048x1x64_S8x2048x4x64_0_1_2_3 (broadcastInDim S1x2048x1x64 ![1, 3] bcast_S2048x64_S1x2048x1x64_1_3 N))))⟩,
    ⟨S8x2048x4x64, (addf (mulf (extractStridedSlice S8x2048x4x64 ![0, 0, 0, 0] (shapeCast _ S shapeCasts_S8x2048x512_S8x2048x4x128) slices_S8x2048x4x128_S8x2048x4x64_0_0_0_0) (broadcastInDim S8x2048x4x64 ![0, 1, 2, 3] bcast_S1x2048x1x64_S8x2048x4x64_0_1_2_3 (broadcastInDim S1x2048x1x64 ![1, 3] bcast_S2048x64_S1x2048x1x64_1_3 N))) (mulf (extractStridedSlice S8x2048x4x64 ![0, 0, 0, 64] (shapeCast _ S shapeCasts_S8x2048x512_S8x2048x4x128) slices_S8x2048x4x128_S8x2048x4x64_0_0_0_64) (broadcastInDim S8x2048x4x64 ![0, 1, 2, 3] bcast_S1x2048x1x64_S8x2048x4x64_0_1_2_3 (broadcastInDim S1x2048x1x64 ![1, 3] bcast_S2048x64_S1x2048x1x64_1_3 C))))⟩] concatenates_S8x2048x4x64_S8x2048x4x64_S8x2048x4x128_d3

theorem groups_apply (S : S8x2048x512.Idx → EReal) (h : S8x2048x512.ShapeCasts S8x2048x4x128) (b : Fin 8) (p : Fin 2048) (q : Fin 4) (l : Fin 128) :
    shapeCast S8x2048x4x128 S h (ix4 b p q l) = at3 S b p (128 * q + l) := by
  refine Eq.trans ?_ (at3_ix S b p (⟨128 * q + l, by omega⟩ : Fin 512))
  pointwise
  exact congrArg (fun k => S (ix3 b p k)) (Fin.ext (by show q.val * 128 + l.val = 128 * q.val + l.val; omega))

theorem ungroup_apply (Y : S8x2048x4x128.Idx → EReal) (h : S8x2048x4x128.ShapeCasts S8x2048x512) (b : Fin 8) (p : Fin 2048) (n : Fin 512) :
    shapeCast S8x2048x512 Y h (ix3 b p n) = Y (ix4 b p ⟨n / 128, by omega⟩ ⟨n % 128, by omega⟩) := by
  pointwise

/-- One rotated value, from the values before the rotation. -/
def turnE (z cs sn : ℕ → EReal) (n : ℕ) : EReal :=
  if n % 128 < 64 then z n * cs (n % 128) - z (n + 64) * sn (n % 128) else z (n - 64) * sn (n % 128 - 64) + z n * cs (n % 128 - 64)

theorem rotV_apply (S : FVec Ideal S8x2048x512 .f32) (C N : FVec Ideal S2048x64 .f32) (b : Fin 8) (p : Fin 2048) (n : Fin 512) :
    rotV S C N (ix4 b p ⟨n / 128, by omega⟩ ⟨n % 128, by omega⟩) = turnE (at3 S b p) (at2 C p) (at2 N p) n := by
  unfold rotV turnE
  generalize hT : shapeCast S8x2048x4x128 S shapeCasts_S8x2048x512_S8x2048x4x128 = T
  have hT' : ∀ (q : Fin 4) (l : Fin 128), T (ix4 b p q l) = at3 S b p (128 * q + l) := fun q l => by rw [← hT]; exact groups_apply S _ b p q l
  pointwise
  simp only [hT', at2_ix]
  have hn : 128 * (n.val / 128) + n.val % 128 = n.val := Nat.div_add_mod _ _
  by_cases hl : n.val % 128 < 64
  · refine (dif_pos hl).trans ?_
    rw [if_pos hl, hn, show 128 * (n.val / 128) + (64 + n.val % 128) = n.val + 64 by omega]
  · refine (dif_neg hl).trans ?_
    rw [if_neg hl, show 128 * (n.val / 128) + (n.val % 128 - 64) = n.val - 64 by omega,
      show 128 * (n.val / 128) + (64 + (n.val % 128 - 64)) = n.val by omega]

theorem cat_apply (A B : S8x2048x512.Idx → EReal) (C : S8x2048x2048.Idx → EReal) (D : S8x2048x1024.Idx → EReal) (E : S8x2048x3072.Idx → EReal)
    (b : Fin 8) (p : Fin 2048) (n : Fin 7168) :
    concatenate S8x2048x7168 2 [⟨S8x2048x512, A⟩, ⟨S8x2048x512, B⟩, ⟨S8x2048x2048, C⟩, ⟨S8x2048x1024, D⟩, ⟨S8x2048x3072, E⟩] concatenates_S8x2048x512_S8x2048x512_S8x2048x2048_S8x2048x1024_S8x2048x3072_S8x2048x7168_d2 (ix3 b p n)
      = if n.val < 512 then at3 A b p n else if n.val < 1024 then at3 B b p (n - 512) else if n.val < 3072 then at3 C b p (n - 1024)
        else if n.val < 4096 then at3 D b p (n - 3072) else at3 E b p (n - 4096) := by
  have hn := n.isLt
  pointwise
  by_cases h0 : n.val < 512
  · exact (dif_pos h0).trans ((at3_ix A b p (⟨n.val, h0⟩ : Fin 512)).trans (if_pos h0).symm)
  refine (dif_neg h0).trans (Eq.trans ?_ (if_neg h0).symm)
  by_cases h1 : n.val < 1024
  · exact (dif_pos (show n.val - 512 < 512 by omega)).trans ((at3_ix B b p (⟨n.val - 512, by omega⟩ : Fin 512)).trans (if_pos h1).symm)
  refine (dif_neg (show ¬ n.val - 512 < 512 by omega)).trans (Eq.trans ?_ (if_neg h1).symm)
  by_cases h2 : n.val < 3072
  · exact (dif_pos (show n.val - 512 - 512 < 2048 by omega)).trans (((at3_ix C b p (⟨n.val - 512 - 512, by omega⟩ : Fin 2048)).trans
      (congrArg (at3 C b p) (show n.val - 512 - 512 = n.val - 1024 by omega))).trans (if_pos h2).symm)
  refine (dif_neg (show ¬ n.val - 512 - 512 < 2048 by omega)).trans (Eq.trans ?_ (if_neg h2).symm)
  by_cases h3 : n.val < 4096
  · exact (dif_pos (show n.val - 512 - 512 - 2048 < 1024 by omega)).trans (((at3_ix D b p (⟨n.val - 512 - 512 - 2048, by omega⟩ : Fin 1024)).trans
      (congrArg (at3 D b p) (show n.val - 512 - 512 - 2048 = n.val - 3072 by omega))).trans (if_pos h3).symm)
  refine (dif_neg (show ¬ n.val - 512 - 512 - 2048 < 1024 by omega)).trans (Eq.trans ?_ (if_neg h3).symm)
  exact (at3_ix E b p (⟨n.val - 512 - 512 - 2048 - 1024, by omega⟩ : Fin 3072)).trans
    (congrArg (at3 E b p) (show n.val - 512 - 512 - 2048 - 1024 = n.val - 4096 by omega))

/-! ## The log-forgets -/

/-- The log-forgets, from the products and the bias. -/
def forgetV (Z : FVec Ideal S8x2048x7184 .f32) (B : FVec Ideal S1x16 .f32) : FVec Ideal S8x2048x16 .f32 :=
  Host.negf (select (cmpf .une (subf (Host.negf (addf (extractStridedSlice S8x2048x16 ![0, 0, 7168] Z slices_S8x2048x7184_S8x2048x16_0_0_7168) (broadcastInDim S8x2048x16 ![0, 1, 2] bcast_S1x1x16_S8x2048x16_0_1_2 (broadcastInDim S1x1x16 ![2] bcast_S16_S1x1x16_2 (shapeCast _ B shapeCasts_S1x16_S16))))) (broadcastInDim S8x2048x16 ![] bcast_S_S8x2048x16 (constant S_ .f32 0x00000000#32))) (subf (Host.negf (addf (extractStridedSlice S8x2048x16 ![0, 0, 7168] Z slices_S8x2048x7184_S8x2048x16_0_0_7168) (broadcastInDim S8x2048x16 ![0, 1, 2] bcast_S1x1x16_S8x2048x16_0_1_2 (broadcastInDim S1x1x16 ![2] bcast_S16_S1x1x16_2 (shapeCast _ B shapeCasts_S1x16_S16))))) (broadcastInDim S8x2048x16 ![] bcast_S_S8x2048x16 (constant S_ .f32 0x00000000#32)))) (addf (Host.negf (addf (extractStridedSlice S8x2048x16 ![0, 0, 7168] Z slices_S8x2048x7184_S8x2048x16_0_0_7168) (broadcastInDim S8x2048x16 ![0, 1, 2] bcast_S1x1x16_S8x2048x16_0_1_2 (broadcastInDim S1x1x16 ![2] bcast_S16_S1x1x16_2 (shapeCast _ B shapeCasts_S1x16_S16))))) (broadcastInDim S8x2048x16 ![] bcast_S_S8x2048x16 (constant S_ .f32 0x00000000#32))) (addf (maximumf (Host.negf (addf (extractStridedSlice S8x2048x16 ![0, 0, 7168] Z slices_S8x2048x7184_S8x2048x16_0_0_7168) (broadcastInDim S8x2048x16 ![0, 1, 2] bcast_S1x1x16_S8x2048x16_0_1_2 (broadcastInDim S1x1x16 ![2] bcast_S16_S1x1x16_2 (shapeCast _ B shapeCasts_S1x16_S16))))) (broadcastInDim S8x2048x16 ![] bcast_S_S8x2048x16 (constant S_ .f32 0x00000000#32))) (Host.log1p (Host.exp (Host.negf (Host.absf (subf (Host.negf (addf (extractStridedSlice S8x2048x16 ![0, 0, 7168] Z slices_S8x2048x7184_S8x2048x16_0_0_7168) (broadcastInDim S8x2048x16 ![0, 1, 2] bcast_S1x1x16_S8x2048x16_0_1_2 (broadcastInDim S1x1x16 ![2] bcast_S16_S1x1x16_2 (shapeCast _ B shapeCasts_S1x16_S16))))) (broadcastInDim S8x2048x16 ![] bcast_S_S8x2048x16 (constant S_ .f32 0x00000000#32)))))))))

/-- The values before the logarithm of the sigmoid. -/
def preV (Z : FVec Ideal S8x2048x7184 .f32) (B : FVec Ideal S1x16 .f32) : FVec Ideal S8x2048x16 .f32 :=
  addf (extractStridedSlice S8x2048x16 ![0, 0, 7168] Z slices_S8x2048x7184_S8x2048x16_0_0_7168) (broadcastInDim S8x2048x16 ![0, 1, 2] bcast_S1x1x16_S8x2048x16_0_1_2 (broadcastInDim S1x1x16 ![2] bcast_S16_S1x1x16_2 (shapeCast _ B shapeCasts_S1x16_S16)))

theorem preV_apply (Z : FVec Ideal S8x2048x7184 .f32) (B : FVec Ideal S1x16 .f32) (b : Fin 8) (p : Fin 2048) (h : Fin 16) :
    preV Z B (ix3 b p h) = Z (ix3 b p ⟨7168 + h, by omega⟩) + B (ix2 0 h) := by
  pointwise [preV]

theorem forgetV_apply (Z : FVec Ideal S8x2048x7184 .f32) (B : FVec Ideal S1x16 .f32) (b : Fin 8) (p : Fin 2048) (h : Fin 16) :
    forgetV Z B (ix3 b p h) = lsE (Z (ix3 b p ⟨7168 + h, by omega⟩) + B (ix2 0 h)) := by
  rw [← preV_apply, ← ls_eq]
  unfold forgetV
  generalize hP : addf (extractStridedSlice S8x2048x16 ![0, 0, 7168] Z slices_S8x2048x7184_S8x2048x16_0_0_7168) (broadcastInDim S8x2048x16 ![0, 1, 2] bcast_S1x1x16_S8x2048x16_0_1_2 (broadcastInDim S1x1x16 ![2] bcast_S16_S1x1x16_2 (shapeCast _ B shapeCasts_S1x16_S16))) = P
  rw [show preV Z B = P from hP]
  pointwise
  rw [if_neg (fun h => h rfl)]
  rfl

theorem heads_apply (Y : S8x2048x16.Idx → EReal) (h : S8x2048x16.Transposes [0, 2, 1] S8x16x2048) (h' : S8x16x2048.ShapeCasts S8x8x2x2048) (b r : Fin 8) (j : Fin 2) (s : Fin 2048) :
    shapeCast S8x8x2x2048 (transpose S8x16x2048 [0, 2, 1] Y h) h' (ix4 b r j s) = Y (ix3 b s ⟨2 * r + j, by omega⟩) := by
  pointwise
  exact congrArg (fun k => Y (ix3 b s k)) (Fin.ext (by show r.val * 2 + j.val = 2 * r.val + j.val; omega))

/-! ## The results -/

/-- The first result, from the products and the rotation's two tables. -/
def zV (Z : FVec Ideal S8x2048x7184 .f32) (C N : FVec Ideal S2048x64 .f32) : FVec Ideal S16384x7168 .bf16 :=
  shapeCast _ (truncf .bf16 (concatenate S8x2048x7168 2 [⟨S8x2048x512, (shapeCast _ (rotV (extractStridedSlice S8x2048x512 ![0, 0, 0] Z slices_S8x2048x7184_S8x2048x512_0_0_0) C N) shapeCasts_S8x2048x4x128_S8x2048x512)⟩,
    ⟨S8x2048x512, (shapeCast _ (mulf (rotV (extractStridedSlice S8x2048x512 ![0, 0, 512] Z slices_S8x2048x7184_S8x2048x512_0_0_512) C N) (broadcastInDim S8x2048x4x128 ![] bcast_S_S8x2048x4x128 (constant S_ .f32 0x3DB504F3#32))) shapeCasts_S8x2048x4x128_S8x2048x512)⟩,
    ⟨S8x2048x2048, (extractStridedSlice S8x2048x2048 ![0, 0, 1024] Z slices_S8x2048x7184_S8x2048x2048_0_0_1024)⟩,
    ⟨S8x2048x1024, (mulf (extractStridedSlice S8x2048x1024 ![0, 0, 3072] Z slices_S8x2048x7184_S8x2048x1024_0_0_3072) (broadcastInDim S8x2048x1024 ![] bcast_S_S8x2048x1024 (constant S_ .f32 0x3E38AA3B#32)))⟩,
    ⟨S8x2048x3072, (extractStridedSlice S8x2048x3072 ![0, 0, 4096] Z slices_S8x2048x7184_S8x2048x3072_0_0_4096)⟩] concatenates_S8x2048x512_S8x2048x512_S8x2048x2048_S8x2048x1024_S8x2048x3072_S8x2048x7168_d2) bitsLt_bf16_f32) shapeCasts_S8x2048x7168_S16384x7168

/-- One value of the first result: a rotated value, a scaled one, or the product itself. -/
def outE (z cs sn : ℕ → EReal) (n : ℕ) : EReal :=
  if n < 512 then turnE z cs sn n
  else if n < 1024 then turnE z cs sn n * Ideal.ofBits .f32 0x3DB504F3#32
  else if n < 3072 then z n
  else if n < 4096 then z n * Ideal.ofBits .f32 0x3E38AA3B#32
  else z n

theorem turnE_shift (z z' cs sn : ℕ → EReal) (n : ℕ) (h : ∀ k, 512 ≤ k → k < 1024 → z' (k - 512) = z k) (h0 : 512 ≤ n) (h1 : n < 1024) :
    turnE z' cs sn (n - 512) = turnE z cs sn n := by
  unfold turnE
  rw [show (n - 512) % 128 = n % 128 by omega]
  by_cases hl : n % 128 < 64
  · rw [if_pos hl, if_pos hl, ← h n h0 h1, ← h (n + 64) (by omega) (by omega), show n + 64 - 512 = n - 512 + 64 by omega]
  · rw [if_neg hl, if_neg hl, ← h n h0 h1, ← h (n - 64) (by omega) (by omega), show n - 64 - 512 = n - 512 - 64 by omega]

theorem turnE_congr (z z' cs sn : ℕ → EReal) (n : ℕ) (h : ∀ k, k < 512 → z' k = z k) (hn : n < 512) : turnE z' cs sn n = turnE z cs sn n := by
  unfold turnE
  by_cases hl : n % 128 < 64
  · rw [if_pos hl, if_pos hl, ← h n hn, ← h (n + 64) (by omega)]
  · rw [if_neg hl, if_neg hl, ← h n hn, ← h (n - 64) (by omega)]

theorem cols_at {M o : ℕ} (Z : S8x2048x7184.Idx → EReal) (Y : ((⟨3, ![8, 2048, M]⟩ : Shape)).Idx → EReal) (b : Fin 8) (p : Fin 2048)
    (h : ∀ k : Fin M, Y (ix3 b p k) = at3 Z b p (o + k)) (k : ℕ) (hk : k < M) : at3 Y b p k = at3 Z b p (o + k) :=
  (at3_ix Y b p (⟨k, hk⟩ : Fin M)).symm.trans (h ⟨k, hk⟩)

theorem rows_apply (Y : S8x2048x7168.Idx → EReal) (h : S8x2048x7168.ShapeCasts S16384x7168) (r : Fin 16384) (n : Fin 7168) :
    shapeCast S16384x7168 Y h (ix2 r n) = Y (ix3 ⟨r / 2048, by omega⟩ ⟨r % 2048, by omega⟩ n) := by
  pointwise

theorem zV_apply (Z : FVec Ideal S8x2048x7184 .f32) (C N : FVec Ideal S2048x64 .f32) (r : Fin 16384) (n : Fin 7168) :
    zV Z C N (ix2 r n) = outE (at3 Z (r / 2048) (r % 2048)) (at2 C (r % 2048)) (at2 N (r % 2048)) n := by
  have hn := n.isLt
  unfold zV
  refine (rows_apply _ _ r n).trans ?_
  generalize hb : (⟨r / 2048, by omega⟩ : Fin 8) = b
  generalize hp : (⟨r % 2048, by omega⟩ : Fin 2048) = p
  have hb' : r.val / 2048 = b.val := congrArg Fin.val hb
  have hp' : r.val % 2048 = p.val := congrArg Fin.val hp
  rw [hb', hp']
  refine (cat_apply _ _ _ _ _ b p n).trans ?_
  unfold outE
  split_ifs with h0 h1 h2 h3
  · rw [← at3_ix _ b p (⟨n.val, h0⟩ : Fin 512), ungroup_apply, rotV_apply]
    refine turnE_congr _ _ _ _ _ (fun k hk => ?_) h0
    refine (cols_at (o := 0) Z _ b p (fun k => ?_) k hk).trans (by rw [Nat.zero_add])
    refine Eq.trans ?_ (at3_ix Z b p (⟨0 + k, by omega⟩ : Fin 7184))
    pointwise
  · have e : n.val - 512 < 512 := by omega
    rw [← at3_ix _ b p (⟨n.val - 512, e⟩ : Fin 512), ungroup_apply]
    refine (congrArg₂ (fun a b : EReal => a * b) ((rotV_apply _ C N b p ⟨n.val - 512, e⟩).trans (turnE_shift _ _ _ _ _ (fun k hk0 hk1 => ?_) (by omega) h1)) ?_ : _)
    · refine (cols_at (o := 512) Z _ b p (fun k => ?_) (k - 512) (by omega)).trans (by rw [show 512 + (k - 512) = k by omega])
      refine Eq.trans ?_ (at3_ix Z b p (⟨512 + k, by omega⟩ : Fin 7184))
      pointwise
    · pointwise
  · rw [← at3_ix _ b p (⟨n.val - 1024, by omega⟩ : Fin 2048)]
    refine Eq.trans ?_ (at3_ix Z b p (⟨n.val, by omega⟩ : Fin 7184))
    pointwise
    exact congrArg (fun k => Z (ix3 b p k)) (Fin.ext (by show 1024 + (n.val - 1024) = n.val; omega))
  · rw [← at3_ix _ b p (⟨n.val - 3072, by omega⟩ : Fin 1024)]
    refine Eq.trans ?_ (congrArg (fun v : EReal => v * _) (at3_ix Z b p (⟨n.val, by omega⟩ : Fin 7184)))
    pointwise
    exact congrArg (fun k => Z (ix3 b p k) * _) (Fin.ext (by show 3072 + (n.val - 3072) = n.val; omega))
  · rw [← at3_ix _ b p (⟨n.val - 4096, by omega⟩ : Fin 3072)]
    refine Eq.trans ?_ (at3_ix Z b p (⟨n.val, by omega⟩ : Fin 7184))
    pointwise
    exact congrArg (fun k => Z (ix3 b p k)) (Fin.ext (by show 4096 + (n.val - 4096) = n.val; omega))

/-- The second result, from the log-forgets. -/
def cV (L : FVec Ideal S8x2048x16 .f32) : FVec Ideal S8x8x2x2048 .f32 :=
  shapeCast _ (transpose S8x16x2048 [0, 2, 1] (Host.reduceWindowAdd ![1, 2048, 1] ![1, 1, 1] ![0, 2047, 0] ![0, 0, 0] L (broadcastInDim S_ ![] bcast_S_S_ (constant S_ .f32 0x00000000#32)) reduceWindows_S8x2048x16_S8x2048x16_w1s1p0_0_w2048s1p2047_0_w1s1p0_0 h_S_) transposes_S8x2048x16_S8x16x2048_0_2_1) shapeCasts_S8x16x2048_S8x8x2x2048

theorem cV_apply (L : FVec Ideal S8x2048x16 .f32) (b r : Fin 8) (j : Fin 2) (s : Fin 2048) :
    cV L (ix4 b r j s) = ∑ i ∈ Finset.range (s.val + 1), at3 L b i (2 * r + j) := by
  unfold cV
  refine (heads_apply _ _ _ b r j s).trans ?_
  exact cumsum_apply (B := 8) (M := 2047) (C := 16) L _ (fun _ => by simp [broadcastInDim, constant]) _ _ b s ⟨2 * r + j, by omega⟩

/-- The products, from the reference's arguments. -/
def prodV (m : (ℓ : Loc nD τ sig) → Buf (Elt Ideal) ℓ) (c : Dev nD) : FVec Ideal S8x2048x7184 .f32 :=
  projV (m ((c.tc : Thread nD τ).loc main_arg0)) (m ((c.tc : Thread nD τ).loc main_arg1)) (m ((c.tc : Thread nD τ).loc main_arg2))

theorem out0_eq (m : (ℓ : Loc nD τ sig) → Buf (Elt Ideal) ℓ) (c : Dev nD) : Value.res_out0 m c = zV (prodV m c) cosV sinV := rfl

theorem out1_eq (m : (ℓ : Loc nD τ sig) → Buf (Elt Ideal) ℓ) (c : Dev nD) :
    Value.res_out1 m c = cV (forgetV (prodV m c) (m ((c.tc : Thread nD τ).loc main_arg3))) := rfl

/-- The reference's frame: it declares no semaphore, so the counters are zero. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems rfl _⟩) (Value.run m g)

end Cert.Inp.Ref

end
-- ==== Proof.In.lean ====
module

public import proofs.«01_k».proof.Defs
public import proofs.«01_k».proof.Proof.InKer
public import proofs.«01_k».proof.Proof.InRef

/-! # The input projection's value claim

The kernel scales the weights' rows before the product and the reference scales the product, or the rotated product; the scales
are real numbers and not negative, so they move in and out of sums and differences of extended reals. -/

@[expose] public section

set_option maxRecDepth 16384

noncomputable section

namespace Cert.Inp

open Idealize.ShloMosaic Idealize.ShloMosaic.TcCoe Idealize.SL.Sem Cert.Ret Cert.Outp

/-! ## The scales -/

theorem k2_fin : 0 ≤ Ideal.ofBits .f32 0x3E38AA3B#32 ∧ Ideal.ofBits .f32 0x3E38AA3B#32 ≠ ⊤ := by
  constructor <;> simp [Ideal.ofBits, Ideal.ieee, -EReal.coe_mul]

theorem k1_fin : 0 ≤ Ideal.ofBits .f32 0x3DB504F3#32 ∧ Ideal.ofBits .f32 0x3DB504F3#32 ≠ ⊤ := by
  constructor <;> simp [Ideal.ofBits, Ideal.ieee, -EReal.coe_mul]

theorem scaleE_fin (n : ℕ) : 0 ≤ scaleE n ∧ scaleE n ≠ ⊤ := by
  unfold scaleE
  split_ifs
  · exact k2_fin
  · exact k1_fin
  · rw [Ideal.ofBits_one_f32]
    exact ⟨zero_le_one, EReal.coe_ne_top 1⟩

theorem scaleE_one (n : ℕ) (h0 : ¬(3072 ≤ n ∧ n < 4096)) (h1 : ¬(512 ≤ n ∧ n < 1024)) : scaleE n = 1 := by
  unfold scaleE
  rw [if_neg h0, if_neg h1, Ideal.ofBits_one_f32]

/-! ## The rotation -/

/-- The kernel's rotation of scaled values is the reference's rotation, scaled. -/
theorem rotE_scale (z z' cs sn : ℕ → EReal) (n : ℕ) (s : EReal) (h0 : 0 ≤ s) (h1 : s ≠ ⊤) (hz : ∀ k, k / 128 = n / 128 → z' k = z k * s) :
    rotE z' (cosE cs) (sinE sn) n = Ref.turnE z cs sn n * s := by
  unfold rotE Ref.turnE cosE sinE
  rw [hz n rfl, hz (128 * (n / 128) + (n + 64) % 128) (by omega)]
  by_cases hl : n % 128 < 64
  · rw [if_pos hl, if_pos hl, if_pos hl, show 128 * (n / 128) + (n + 64) % 128 = n + 64 by omega,
      EReal.sub_mul_of_nonneg_of_ne_top h0 h1, mul_neg, ← sub_eq_add_neg, mul_right_comm (z n), mul_right_comm (z (n + 64))]
  · rw [if_neg hl, if_neg hl, if_neg hl, show 128 * (n / 128) + (n + 64) % 128 = n - 64 by omega,
      EReal.right_distrib_of_nonneg_of_ne_top h0 h1, add_comm, mul_right_comm (z n), mul_right_comm (z (n - 64))]

/-- The kernel's value of the first result is the reference's. -/
theorem zE_eq (X : ℕ → ℕ → ℕ → EReal) (g : ℕ → EReal) (W : ℕ → ℕ → EReal) (b s n : ℕ) :
    zE X g W b s n = Ref.outE (fun n => dotE (rmsE (X b s) g) (fun k => W k n)) (at2 cosV s) (at2 sinV s) n := by
  have hd : ∀ n, dotE (rmsE (X b s) g) (fun k => W k n * scaleE n) = dotE (rmsE (X b s) g) (fun k => W k n) * scaleE n := fun n =>
    dotE_scale _ _ _ (scaleE_fin n).1 (scaleE_fin n).2
  have e : zE X g W b s n = if n < 1024 then rotE (fun n => dotE (rmsE (X b s) g) (fun k => W k n) * scaleE n) (cosE (at2 cosV s)) (sinE (at2 sinV s)) n
      else dotE (rmsE (X b s) g) (fun k => W k n) * scaleE n := by
    unfold zE headE
    by_cases h : n < 1024
    · rw [if_pos h, if_pos h]
      exact congrArg (fun z => rotE z _ _ n) (funext hd)
    · rw [if_neg h, if_neg h]
      exact hd n
  rw [e]
  clear e hd
  obtain ⟨z, hz⟩ : ∃ z : ℕ → EReal, z = fun n => dotE (rmsE (X b s) g) (fun k => W k n) := ⟨_, rfl⟩
  rw [show (fun n => dotE (rmsE (X b s) g) (fun k => W k n) * scaleE n) = fun n => z n * scaleE n by rw [hz], show dotE (rmsE (X b s) g) (fun k => W k n) = z n by rw [hz], ← hz]
  unfold Ref.outE
  by_cases h1 : n < 1024
  · rw [if_pos h1, if_pos h1]
    by_cases h0 : n < 512
    · rw [if_pos h0, rotE_scale z _ _ _ n 1 zero_le_one (EReal.coe_ne_top 1) fun k hk => by rw [scaleE_one k (by omega) (by omega)], mul_one]
    · rw [if_neg h0]
      refine rotE_scale _ _ _ _ n _ k1_fin.1 k1_fin.2 fun k hk => ?_
      rw [show scaleE k = Ideal.ofBits .f32 0x3DB504F3#32 by unfold scaleE; rw [if_neg (by omega), if_pos (by omega)]]
  · rw [if_neg h1, if_neg h1, if_neg (by omega)]
    by_cases h2 : n < 3072
    · rw [if_pos h2, scaleE_one n (by omega) (by omega), mul_one]
    · rw [if_neg h2]
      by_cases h3 : n < 4096
      · rw [if_pos h3, show scaleE n = Ideal.ofBits .f32 0x3E38AA3B#32 by unfold scaleE; rw [if_pos (by omega)]]
      · rw [if_neg h3, scaleE_one n (by omega) (by omega), mul_one]

/-! ## The results -/

theorem outE_congr (z z' cs sn : ℕ → EReal) (n : ℕ) (hn : n < 7168) (h : ∀ k, k < 7168 → z k = z' k) : Ref.outE z cs sn n = Ref.outE z' cs sn n := by
  unfold Ref.outE Ref.turnE
  have e := h n hn
  have e' := h (n - 64) (by omega)
  by_cases h1 : n < 1024
  · rw [e, e', h (n + 64) (by omega)]
  · simp only [if_neg h1, if_neg (show ¬ n < 512 by omega), e]

section

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The products, entry by entry. -/
theorem prod_at (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (b : Fin 8) (p : Fin 2048) (n : Fin 7184) :
    Ref.prodV m' c (ix3 b p n) = dotE (rmsE (argX m c b p) (argG m c)) (fun k => argW m c k n) := by
  unfold Ref.prodV
  rw [Ref.projV_apply, h0, h1, h2]
  rfl

/-- The first results agree. -/
theorem out0_eq (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Cert.Reference3Ideal.Value.res_out0 m' c = zFinal m c := by
  rw [Ref.out0_eq]
  funext y
  obtain ⟨r, n, rfl⟩ : ∃ (r : Fin 16384) (n : Fin 7168), y = ix2 r n := ⟨y 0, y 1, by funext a; fin_cases a <;> rfl⟩
  refine (Ref.zV_apply _ _ _ r n).trans ((outE_congr _ _ _ _ n n.isLt fun k hk => ?_).trans (zE_eq (argX m c) (argG m c) (argW m c) (r.val / 2048) (r.val % 2048) n).symm)
  exact (at3_ix _ (⟨r.val / 2048, by omega⟩ : Fin 8) (⟨r.val % 2048, by omega⟩ : Fin 2048) (⟨k, by omega⟩ : Fin 7184)).symm.trans (prod_at m m' c h0 h1 h2 _ _ _)

/-- The second results agree. -/
theorem out1_eq (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Value.res_out1 m' c = cFinal m c := by
  rw [Ref.out1_eq, h3]
  funext y
  obtain ⟨b, r, j, s, rfl⟩ : ∃ (b r : Fin 8) (j : Fin 2) (s : Fin 2048), y = ix4 b r j s := ⟨y 0, y 1, y 2, y 3, by funext a; fin_cases a <;> rfl⟩
  refine (Ref.cV_apply _ b r j s).trans (Finset.sum_congr rfl fun i hi => ?_)
  have hi' : i < 2048 := by have := Finset.mem_range.mp hi; omega
  refine (at3_ix _ b (⟨i, hi'⟩ : Fin 2048) (⟨2 * r.val + j.val, by omega⟩ : Fin 16)).symm.trans ((Ref.forgetV_apply _ _ b _ _).trans ?_)
  exact congrArg₂ (fun u v : EReal => lsE (u + v)) (prod_at m m' c h0 h1 h2 _ _ _) (at2_ix _ (0 : Fin 1) (⟨2 * r.val + j.val, by omega⟩ : Fin 16))

end

/-! ## The claim -/

/-- The value claim. -/
theorem algebraic : Cert.algebraic_Kernel3Ideal_Reference3Ideal := by
  intro m g m' g' _ hag
  refine ⟨fun c => zFinal m c, fun c => cFinal m c,
    (θ_run Cert.Kernel3Ideal.defs _ _).mono (fun r h c => ⟨?_, ?_, h.2.1 c⟩) (θ_run_and (run_main (F := Ideal) m g) (run_frame (F := Ideal) m g)),
    (θ_run Cert.Reference3Ideal.defs _ _).mono (fun r h c => ?_) (Cert.Reference3Ideal.Value.run m' g')⟩
  · exact ((h.1.1 c).1 8).trans (z_arr m c)
  · exact ((h.1.1 c).1 9).trans (c_arr m c)
  · obtain ⟨h0, h1, h2, h3⟩ := hag c
    exact ⟨(h c).1.trans (out0_eq m m' c h0 h1 h2), (h c).2.1.trans (out1_eq m m' c h0 h1 h2 h3), (h c).2.2⟩

end Cert.Inp

end
-- ==== Proof.InBits.lean ====
module

public import proofs.«01_k».proof.Defs
public import proofs.«01_k».proof.Proof.Gen.Kernel3
public import proofs.«01_k».proof.Proof.InFrame

/-! # The input projection's frame at the bits

The program read at the bits has the text of the one read at the extended reals, so its table of bodies and its main are the same
terms, and the run over any float values is its run too. -/

@[expose] public section

set_option maxRecDepth 16384

noncomputable section

namespace Cert.Inp

open Idealize.ShloMosaic Idealize.ShloMosaic.TcCoe Idealize.SL.Sem

variable {F : FTy → Type} [FloatOps F]

theorem bodies_eq : Cert.Kernel3.defs₀ (F := F) = Cert.Kernel3Ideal.defs₀ (F := F) :=
  congrArg (Defs.onTc (nD := Cert.Kernel3Ideal.nD) (τ := Cert.Kernel3Ideal.τ) (sig := Cert.Kernel3Ideal.sig) (Val := Elt F) (Λ := Cert.Kernel3Ideal.Λ₀)) (funext fun l => by
    obtain ⟨l, hl⟩ := l
    obtain rfl : l = 0 := Nat.lt_one_iff.mp hl
    rfl)

theorem defs_eq : Cert.Kernel3.defs (F := F) = Cert.Kernel3Ideal.defs (F := F) := by
  show Pipeline.defs (Cert.Kernel3Ideal.pcfgs (F := F)) Cert.Kernel3.defs₀ = _
  rw [bodies_eq]
  rfl

set_option maxHeartbeats 4000000 in
theorem main_eq : Cert.Kernel3.main (F := F) = Cert.Kernel3Ideal.main (F := F) := rfl

/-- The kernel's frame, at the bits. -/
theorem frame_kernel : Cert.quiescent_Kernel3 := fun m ρ _ => by
  rw [defs_eq, main_eq]
  exact run_frame (F := Bits) m ρ

end Cert.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gates_finite
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Ret
public import proofs.«01_k».proof.Proof.Out
public import proofs.«01_k».proof.Proof.In
public import proofs.«01_k».proof.Proof.InBits

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_gates_finite.Gen.facts,
  fun m g _ => Cert.Kernel.Gen.frame m g,
  fun m g _ => Cert.KernelIdeal.Gen.frame m g,
  fun m g _ => Cert.KernelIdeal.Gen.frame m g,
  fun m g _ => Cert.Ret.frame_reference m g,
  fun m g _ => Cert.Ret.frame_reference m g,
  fun m g _ => Cert.Kernel2.Gen.frame m g,
  fun m g _ => Cert.Kernel2Ideal.Gen.frame m g,
  fun m g _ => Cert.Outp.Ref.frame_reference m g,
  Cert.Inp.frame_kernel,
  fun m g _ => Cert.Inp.run_frame (F := Ideal) m g,
  fun m g _ => Cert.Inp.Ref.frame_reference m g,
  trivial,
  Cert.Ret.algebraic,
  trivial,
  Cert.Outp.algebraic,
  trivial,
  Cert.Inp.algebraic⟩

end Cert.Proof

end
